-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d_model" .f32 0x39CCCCCD#32 ((1 / 2560 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x2560 : Shape := ⟨3, ![1, 256, 2560]⟩
abbrev S2560 : Shape := ⟨1, ![2560]⟩
abbrev S2560x9728 : Shape := ⟨2, ![2560, 9728]⟩
abbrev S9728 : Shape := ⟨1, ![9728]⟩
abbrev S256x2560 : Shape := ⟨2, ![256, 2560]⟩
abbrev S1x2560 : Shape := ⟨2, ![1, 2560]⟩
abbrev S1x9728 : Shape := ⟨2, ![1, 9728]⟩
abbrev S256x9728 : Shape := ⟨2, ![256, 9728]⟩
abbrev S1x1 : Shape := ⟨2, ![1, 1]⟩
abbrev S1x256 : Shape := ⟨2, ![1, 256]⟩
abbrev S_ : Shape := ⟨0, ![]⟩
abbrev S19 : Shape := ⟨1, ![19]⟩
abbrev S1 : Shape := ⟨1, ![1]⟩
abbrev S2560x512 : Shape := ⟨2, ![2560, 512]⟩
abbrev S32x2560 : Shape := ⟨2, ![32, 2560]⟩
abbrev S32 : Shape := ⟨1, ![32]⟩
abbrev S32x1 : Shape := ⟨2, ![32, 1]⟩
abbrev S256x1 : Shape := ⟨2, ![256, 1]⟩
abbrev S8x128 : Shape := ⟨2, ![8, 128]⟩
abbrev S256x512 : Shape := ⟨2, ![256, 512]⟩
abbrev S1x512 : Shape := ⟨2, ![1, 512]⟩
abbrev S32x8x4x128 : Shape := ⟨4, ![32, 8, 4, 128]⟩
abbrev S1x8x128 : Shape := ⟨3, ![1, 8, 128]⟩
abbrev S1x1x1 : Shape := ⟨3, ![1, 1, 1]⟩

abbrev nBuf : Space → Nat
  | .hbm => 12
  | .vmem => 11
  | .smem => 0
  | _ => 0

abbrev bufTy : (tb : Table) → Fin (tcTables nBuf tb) → BufTy
  | .hbm, ⟨0, _⟩ => ⟨S1x256x2560, .bf16⟩
  | .hbm, ⟨1, _⟩ => ⟨S2560, .f32⟩
  | .hbm, ⟨2, _⟩ => ⟨S2560x9728, .fp8e4m3⟩
  | .hbm, ⟨3, _⟩ => ⟨S9728, .f32⟩
  | .hbm, ⟨4, _⟩ => ⟨S256x2560, .bf16⟩
  | .hbm, ⟨5, _⟩ => ⟨S1x2560, .f32⟩
  | .hbm, ⟨6, _⟩ => ⟨S1x9728, .f32⟩
  | .hbm, ⟨7, _⟩ => ⟨S256x9728, .fp8e4m3⟩
  | .hbm, ⟨8, _⟩ => ⟨S1x1, .f32⟩
  | .hbm, ⟨9, _⟩ => ⟨S1x1, .f32⟩
  | .hbm, ⟨10, _⟩ => ⟨S256x2560, .fp8e4m3⟩
  | .hbm, ⟨11, _⟩ => ⟨S1x256, .f32⟩
  | .local _ .vmem, ⟨0, _⟩ => ⟨S1x2560, .f32⟩
  | .local _ .vmem, ⟨1, _⟩ => ⟨S1x9728, .f32⟩
  | .local _ .vmem, ⟨2, _⟩ => ⟨S1x1, .f32⟩
  | .local _ .vmem, ⟨3, _⟩ => ⟨S1x1, .f32⟩
  | .local _ .vmem, ⟨4, _⟩ => ⟨S1x256, .f32⟩
  | .local _ .vmem, ⟨5, _⟩ => ⟨S256x2560, .bf16⟩
  | .local _ .vmem, ⟨6, _⟩ => ⟨S256x2560, .f32⟩
  | .local _ .vmem, ⟨7, _⟩ => ⟨S256x2560, .fp8e4m3⟩
  | .local _ .vmem, ⟨8, _⟩ => ⟨S2560x9728, .fp8e4m3⟩
  | .local _ .vmem, ⟨9, _⟩ => ⟨S256x9728, .f32⟩
  | .local _ .vmem, ⟨10, _⟩ => ⟨S256x9728, .fp8e4m3⟩
  | _, _ => ⟨S1x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x9728 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "inv_d_model" => some ((1 / 2560 : ℝ) : EReal)
  | _ => none
-- ==== ReferenceIdeal.lean ====
abbrev S1x256x2560 : Shape := ⟨3, ![1, 256, 2560]⟩
abbrev S2560 : Shape := ⟨1, ![2560]⟩
abbrev S2560x9728 : Shape := ⟨2, ![2560, 9728]⟩
abbrev S9728 : Shape := ⟨1, ![9728]⟩
abbrev S256x2560 : Shape := ⟨2, ![256, 2560]⟩
abbrev S1x2560 : Shape := ⟨2, ![1, 2560]⟩
abbrev S1x9728 : Shape := ⟨2, ![1, 9728]⟩
abbrev S256x9728 : Shape := ⟨2, ![256, 9728]⟩
abbrev S1x1 : Shape := ⟨2, ![1, 1]⟩
abbrev S1x256 : Shape := ⟨2, ![1, 256]⟩
abbrev S256 : Shape := ⟨1, ![256]⟩
abbrev S256x1 : Shape := ⟨2, ![256, 1]⟩
abbrev S1x256x9728 : Shape := ⟨3, ![1, 256, 9728]⟩
abbrev S1 : Shape := ⟨1, ![1]⟩
abbrev S1x1x1 : Shape := ⟨3, ![1, 1, 1]⟩

abbrev nBuf : Space → Nat
  | .hbm => 12
  | .vmem => 9
  | .smem => 0
  | _ => 0

abbrev bufTy : (tb : Table) → Fin (tcTables nBuf tb) → BufTy
  | .hbm, ⟨0, _⟩ => ⟨S1x256x2560, .bf16⟩
  | .hbm, ⟨1, _⟩ => ⟨S2560, .f32⟩
  | .hbm, ⟨2, _⟩ => ⟨S2560x9728, .fp8e4m3⟩
  | .hbm, ⟨3, _⟩ => ⟨S9728, .f32⟩
  | .hbm, ⟨4, _⟩ => ⟨S256x2560, .bf16⟩
  | .hbm, ⟨5, _⟩ => ⟨S1x2560, .f32⟩
  | .hbm, ⟨6, _⟩ => ⟨S1x9728, .f32⟩
  | .hbm, ⟨7, _⟩ => ⟨S256x9728, .fp8e4m3⟩
  | .hbm, ⟨8, _⟩ => ⟨S1x1, .f32⟩
  | .hbm, ⟨9, _⟩ => ⟨S1x1, .f32⟩
  | .hbm, ⟨10, _⟩ => ⟨S256x2560, .fp8e4m3⟩
  | .hbm, ⟨11, _⟩ => ⟨S1x256, .f32⟩
  | .local _ .vmem, ⟨0, _⟩ => ⟨S256x2560, .bf16⟩
  | .local _ .vmem, ⟨1, _⟩ => ⟨S1x2560, .f32⟩
  | .local _ .vmem, ⟨2, _⟩ => ⟨S2560x9728, .fp8e4m3⟩
  | .local _ .vmem, ⟨3, _⟩ => ⟨S1x9728, .f32⟩
  | .local _ .vmem, ⟨4, _⟩ => ⟨S256x9728, .fp8e4m3⟩
  | .local _ .vmem, ⟨5, _⟩ => ⟨S1x1, .f32⟩
  | .local _ .vmem, ⟨6, _⟩ => ⟨S1x1, .f32⟩
  | .local _ .vmem, ⟨7, _⟩ => ⟨S256x2560, .fp8e4m3⟩
  | .local _ .vmem, ⟨8, _⟩ => ⟨S1x256, .f32⟩
  | _, _ => ⟨S1x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x9728 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9728 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x9728 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- What a memref's buffer holds on core `c`. -/
abbrev HB (F : FTy → Type) (c : Dev nD) {sp : Space} {S : Shape} {e : EltTy} (M : Memref sig .tc sp S e) : Type := Buf (Elt F) (M.view.loc (c : Thread nD τ))
/-- The whole buffer of a memref, at contents `f`. -/
abbrev hp (c : Dev nD) {sp : Space} {S : Shape} {e : EltTy} (M : Memref sig .tc sp S e) (f : HB F c M) : sProp 𝕄 :=
  M.view.loc (c : Thread nD τ) ↦{fullShare} f
/-- A DMA semaphore of the body at zero. -/
abbrev sv (c : Dev nD) (k : DmaSem sig) : sProp 𝕄 := semVal ((c : Thread nD τ), SemLoc.dma k) 0
/-- The body's 22 DMA semaphores at zero. -/
abbrev sems (c : Dev nD) : sProp 𝕄 :=
  iprop(sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24 ∗ sv c 25 ∗ sv c 26)

/-- The activations, left in HBM. -/
abbrev xH : Memref sig .tc .hbm S256x2560 .bf16 := Memref.whole main_v0
/-- The weight, left in HBM. -/
abbrev wH : Memref sig .tc .hbm S2560x9728 .fp8e4m3 := Memref.whole main_arg2
/-- The output codes' result, left in HBM. -/
abbrev ycH : Memref sig .tc .hbm S256x9728 .fp8e4m3 := Memref.whole main_v3_0
/-- The activation codes' result, left in HBM. -/
abbrev xcH : Memref sig .tc .hbm S256x2560 .fp8e4m3 := Memref.whole main_v3_3
/-- The activations on chip. -/
abbrev xM : Memref sig .tc .vmem S256x2560 .bf16 := Memref.whole cc0_scratch0
/-- The normalised rows on chip. -/
abbrev hM : Memref sig .tc .vmem S256x2560 .f32 := Memref.whole cc0_scratch1
/-- The activation codes on chip. -/
abbrev xcM : Memref sig .tc .vmem S256x2560 .fp8e4m3 := Memref.whole cc0_scratch2
/-- The weight on chip. -/
abbrev wM : Memref sig .tc .vmem S2560x9728 .fp8e4m3 := Memref.whole cc0_scratch3
/-- The products on chip. -/
abbrev yM : Memref sig .tc .vmem S256x9728 .f32 := Memref.whole cc0_scratch4
/-- The output codes on chip. -/
abbrev ycM : Memref sig .tc .vmem S256x9728 .fp8e4m3 := Memref.whole cc0_scratch5

set_option maxHeartbeats 4000000
set_option sl_exec.dmaWindow true
set_option sl_exec.dmaWindowLent true
set_option sl_exec.rejoinFuel 100
set_option sl_exec.parts true
set_option sl_exec.lendShare "HS2"

/-- The body's run, at any contents of its buffers: from all buffers whole and every semaphore at zero it runs to the end, gives all
    of them back with every semaphore at zero again, and leaves in the three staged results, in the output codes' array and in the
    activation codes' array what the five components of the value say: four lists of written pieces and one whole array. -/
def run0 (c : Dev nD) (arg1 : Memref sig .tc .vmem S1x2560 .f32) (harg1 : arg1.IsWhole)
    (arg3 : Memref sig .tc .vmem S1x9728 .f32) (harg3 : arg3.IsWhole)
    (arg5 : Memref sig .tc .vmem S1x1 .f32) (harg5 : arg5.IsWhole)
    (arg6 : Memref sig .tc .vmem S1x1 .f32) (harg6 : arg6.IsWhole)
    (arg8 : Memref sig .tc .vmem S1x256 .f32) (harg8 : arg8.IsWhole)
    (f0 : HB F c xH) (f2 : HB F c wH)
    (f4 : HB F c ycH) (f7 : HB F c xcH)
    (g1 : HB F c arg1) (g3 : HB F c arg3) (g5 : HB F c arg5) (g6 : HB F c arg6) (g8 : HB F c arg8)
    (s0 : HB F c xM) (s1 : HB F c hM) (s2 : HB F c xcM)
    (s3 : HB F c wM) (s4 : HB F c yM) (s5 : HB F c ycM) :
    { L : List (View.Piece (Elt F) S1x1 .f32) × List (View.Piece (Elt F) S1x1 .f32) × List (View.Piece (Elt F) S1x256 .f32)
        × List (View.Piece (Elt F) S256x9728 .fp8e4m3) × (S256x2560.Idx → Elt F .fp8e4m3) //
      ∀ (W : Waits sig Unit) (K : PUnit → sProp 𝕄),
        iprop(hp c arg1 g1 ∗ hp c arg3 g3 ∗ hp c arg5 g5 ∗ hp c arg6 g6 ∗ hp c arg8 g8
            ∗ hp c xM s0 ∗ hp c hM s1 ∗ hp c xcM s2 ∗ hp c wM s3 ∗ hp c yM s4 ∗ hp c ycM s5
            ∗ sems c
            ∗ hp c xH f0 ∗ hp c wH f2 ∗ hp c ycH f4 ∗ hp c xcH f7
            ∗ owes (c : Thread nD τ) 0 W
            ∗ (iprop(hp c arg1 g1 ∗ hp c arg3 g3 ∗ hp c arg5 (arg5.view.writes (Elt F) g5 L.1)
                ∗ hp c arg6 (arg6.view.writes (Elt F) g6 L.2.1) ∗ hp c arg8 (arg8.view.writes (Elt F) g8 L.2.2.1)
                ∗ (∃ s, hp c xM s) ∗ (∃ s, hp c hM s) ∗ (∃ s, hp c xcM s)
                ∗ (∃ s, hp c wM s) ∗ (∃ s, hp c yM s) ∗ (∃ s, hp c ycM s)
                ∗ sems c
                ∗ hp c xH f0 ∗ hp c wH f2 ∗ hp c ycH (ycH.view.writes (Elt F) f4 L.2.2.2.1)
                ∗ hp c xcH (View.write (Elt F) xcH.view f7 L.2.2.2.2 Finset.univ)
                ∗ (∃ W', owes (c : Thread nD τ) 0 W')) -∗ K ⟨⟩))
          ⊢ wp frame (wpE (defs₀ (F := F)) Variants.none c none) Set.univ
              (cc0_rmsnorm_fp8_linear xH (Memref.isWhole_whole _) arg1 harg1 wH (Memref.isWhole_whole _) arg3 harg3
                ycH (Memref.isWhole_whole _) arg5 harg5 arg6 harg6 xcH (Memref.isWhole_whole _) arg8 harg8
                xM (Memref.isWhole_whole _) hM (Memref.isWhole_whole _) xcM (Memref.isWhole_whole _) wM (Memref.isWhole_whole _)
                yM (Memref.isWhole_whole _) ycM (Memref.isWhole_whole _)
                cc0_scratch6 cc0_scratch7 cc0_scratch8 cc0_scratch9) K } := by
  refine ⟨⟨?_, ?_, ?_, ?_, ?_⟩, fun W K => ?run⟩
  case run =>
    have hb : Transfers.BatchOf (c : Thread nD τ) (SemLoc.dma (26 : DmaSem sig)) 19 (windows := true) := trivial
    simp only [cc0_rmsnorm_fp8_linear_eq_skeleton]; unfold cc0_rmsnorm_fp8_linear_skel
    iintro ⟨H1, H3, H5, H6, H8, HS0, HS1, HS2, HS3, HS4, HS5,
      ⟨Hq5, Hq6, Hq7, Hq8, Hq9, Hq10, Hq11, Hq12, Hq13, Hq14, Hq15, Hq16, Hq17, Hq18, Hq19, Hq20, Hq21, Hq22, Hq23, Hq24, Hq25, Hq26⟩,
      Hh0, Hh2, Hh4, Hh7, HW, Hk⟩
    sl_exec
    sl_step
    iapply Hk
    isplitl [H1]; · iexact H1
    isplitl [H3]; · iexact H3
    isplitl [H5]; · iexact H5
    isplitl [H6]; · iexact H6
    isplitl [H8]; · iexact H8
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [Hq5 Hq6 Hq7 Hq8 Hq9 Hq10 Hq11 Hq12 Hq13 Hq14 Hq15 Hq16 Hq17 Hq18 Hq19 Hq20 Hq21 Hq22 Hq23 Hq24 Hq25 Hq26]
    · isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      iexact Hq26
    isplitl [Hh0]; · iexact Hh0
    isplitl [Hh2]; · iexact Hh2
    isplitl [Hh4]; · iexact Hh4
    isplitl [Hh7]; · iexact Hh7
    iexists _; iexact HW

end Cert.KernelIdeal.Hand

end
-- ==== Proof.Spec.lean ====
module

public import proofs.«01_k».proof.Proof.Gen.KernelIdeal.Launch
public import proofs.«01_k».proof.Proof.Gen.KernelIdeal.Skeleton
public import Idealize.ShloMosaic.Lib.Pipeline.FrameBody

/-! What the kernel's body computes, as functions of the four operands, operation by operation, over any floats. -/

@[expose] public section

set_option maxRecDepth 16384

noncomputable section

namespace Cert.KernelIdeal.Hand

open Cert.KernelIdeal Cert.KernelIdeal.Gen
open Idealize.ShloMosaic

variable {F : FTy → Type} [FloatOps F] [Named F]

/-! ## The quantiser's exponent search -/

/-- One step of the search for an exponent field: the field with `bit` added is kept where the number whose bits it is (shifted
    into place) is at most `q`. -/
def expStep {s : Shape} (q : FVec F s .f32) (bit : BitVec 32) (field : IVec s 32) : IVec s 32 :=
  select (cmpf .oge q (bitcastToFloat .f32 (shli (addi field (broadcast s bit)) (broadcast s 23#32))))
    (addi field (broadcast s bit)) field
/-- The eight steps, from bit 128 down to bit 1. -/
def expSearch {s : Shape} (q : FVec F s .f32) : IVec s 32 :=
  expStep q 1#32 (expStep q 2#32 (expStep q 4#32 (expStep q 8#32 (expStep q 16#32 (expStep q 32#32
    (expStep q 64#32 (expStep q 128#32 (broadcast s 0#32))))))))
/-- `amax` over the largest code, `amax / 448`, as the kernel forms it. -/
def qOf {s : Shape} (a : FVec F s .f32) : FVec F s .f32 := mulf a (broadcast s (Scalar.ofBits .f32 0x3B124925#32))
/-- The exponent field: 255 where `amax` is beyond the largest finite number, else the one the search finds. -/
def fieldOf {s : Shape} (a : FVec F s .f32) : IVec s 32 :=
  select (cmpf .ogt a (broadcast s (Scalar.ofBits .f32 0x7F7FFFFF#32))) (broadcast s 255#32) (expSearch (qOf a))
/-- The exponent of the scale: 0 where the field is 0 or 255, else the field less 126. -/
def expOf {s : Shape} (a : FVec F s .f32) : IVec s 32 :=
  select (ori (cmpi .eq (fieldOf a) (broadcast s 0#32)) (cmpi .eq (fieldOf a) (broadcast s 255#32))) (broadcast s 0#32)
    (subi (fieldOf a) (broadcast s 126#32))
/-- The scale, from its bits. -/
def scaleOf {s : Shape} (a : FVec F s .f32) : FVec F s .f32 :=
  bitcastToFloat .f32 (shli (addi (broadcast s 127#32) (expOf a)) (broadcast s 23#32))
/-- The scale's inverse, from its bits. -/
def invOf {s : Shape} (a : FVec F s .f32) : FVec F s .f32 :=
  bitcastToFloat .f32 (shli (subi (broadcast s 127#32) (expOf a)) (broadcast s 23#32))
/-- The codes of values already scaled: clipped to [-448, 448] and rounded to fp8. -/
def clipTo {s : Shape} (v : FVec F s .f32) : FVec F s .fp8e4m3 :=
  truncf .fp8e4m3 (minimumf (broadcast s (Scalar.ofBits .f32 0x43E00000#32)) (maximumf (broadcast s (Scalar.ofBits .f32 0xC3E00000#32)) v)) bitsLt_fp8e4m3_f32

/-! ## The row blocks -/

theorem inbRow (o : ℕ) (h : o + 32 ≤ 256) : ∀ a, (![o, 0] : Fin 2 → ℕ) a + S32x2560.size a ≤ S256x2560.size a
  | ⟨0, _⟩ => h
  | ⟨1, _⟩ => Nat.le_refl 2560
/-- Rows `o … o + 31` of a 256×2560 array. -/
abbrev rRow (o : ℕ) (h : o + 32 ≤ 256) : Rect S256x2560 := Rect.unit (s := S256x2560) ![o, 0] S32x2560.size (inbRow o h)
/-- The normalised rows of one block of 32. -/
def hBlk (xb : Vec F S32x2560 .bf16) (g : Vec F S1x2560 .f32) : FVec F S32x2560 .f32 := k0_pay80 xb g
/-- Each row's largest magnitude. -/
def aBlk (xb : Vec F S32x2560 .bf16) (g : Vec F S1x2560 .f32) : FVec F S32x1 .f32 :=
  shapeCast S32x1 (multiReduction .maximumf [1] S32 (absf (hBlk xb g)) 0xFF800000#32 reduces_S32x2560_S32 (.inl rfl) rfl) shapeCasts_S32_S32x1
/-- A block's codes. -/
def cBlk (xb : Vec F S32x2560 .bf16) (g : Vec F S1x2560 .f32) : FVec F S32x2560 .fp8e4m3 :=
  clipTo (mulf (hBlk xb g) (broadcastTo S32x2560 (invOf (aBlk xb g)) broadcasts_S32x1_S32x2560))
/-- A block's scales. -/
def sBlk (xb : Vec F S32x2560 .bf16) (g : Vec F S1x2560 .f32) : FVec F S32x1 .f32 := scaleOf (aBlk xb g)

variable (x : Vec F S256x2560 .bf16) (g : Vec F S1x2560 .f32) (w : Vec F S2560x9728 .fp8e4m3) (ws : Vec F S1x9728 .f32)

/-- The codes of the block at row `o`, as a written piece. -/
def cPiece (o : ℕ) (h : o + 32 ≤ 256) : View.Piece (Elt F) S256x2560 .fp8e4m3 := ⟨rRow o h, cBlk (View.ld x (rRow o h)) g⟩
/-- The activation codes, the last block first. -/
def cPieces : List (View.Piece (Elt F) S256x2560 .fp8e4m3) :=
  [cPiece x g 224 (by decide), cPiece x g 192 (by decide), cPiece x g 160 (by decide), cPiece x g 128 (by decide),
   cPiece x g 96 (by decide), cPiece x g 64 (by decide), cPiece x g 32 (by decide), cPiece x g 0 (by decide)]
/-- The activation codes. -/
def cArr : Vec F S256x2560 .fp8e4m3 := View.canon (cPieces x g)
/-- The activation scales, a column. -/
def sCol : FVec F S256x1 .f32 :=
  concatenate S256x1 0
    [⟨S32x1, sBlk (View.ld x (rRow 0 (by decide))) g⟩, ⟨S32x1, sBlk (View.ld x (rRow 32 (by decide))) g⟩,
   ⟨S32x1, sBlk (View.ld x (rRow 64 (by decide))) g⟩, ⟨S32x1, sBlk (View.ld x (rRow 96 (by decide))) g⟩,
   ⟨S32x1, sBlk (View.ld x (rRow 128 (by decide))) g⟩, ⟨S32x1, sBlk (View.ld x (rRow 160 (by decide))) g⟩,
   ⟨S32x1, sBlk (View.ld x (rRow 192 (by decide))) g⟩, ⟨S32x1, sBlk (View.ld x (rRow 224 (by decide))) g⟩]
    concatenates_S32x1_S32x1_S32x1_S32x1_S32x1_S32x1_S32x1_S32x1_S256x1_d0
/-- The activation scales, the row that is a result. -/
def sRow : FVec F S1x256 .f32 := shapeCast S1x256 (sCol x g) shapeCasts_S256x1_S1x256

/-! ## The column chunks -/

theorem inbW (o : ℕ) (h : o + 512 ≤ 9728) : ∀ a, (![0, o] : Fin 2 → ℕ) a + S2560x512.size a ≤ S2560x9728.size a
  | ⟨0, _⟩ => Nat.le_refl 2560
  | ⟨1, _⟩ => h
theorem inbS (o : ℕ) (h : o + 512 ≤ 9728) : ∀ a, (![0, o] : Fin 2 → ℕ) a + S1x512.size a ≤ S1x9728.size a
  | ⟨0, _⟩ => Nat.le_refl 1
  | ⟨1, _⟩ => h
theorem inbY (o : ℕ) (h : o + 512 ≤ 9728) : ∀ a, (![0, o] : Fin 2 → ℕ) a + S256x512.size a ≤ S256x9728.size a
  | ⟨0, _⟩ => Nat.le_refl 256
  | ⟨1, _⟩ => h
/-- Columns `o … o + 511` of the weight. -/
abbrev rW (o : ℕ) (h : o + 512 ≤ 9728) : Rect S2560x9728 := Rect.unit (s := S2560x9728) ![0, o] S2560x512.size (inbW o h)
/-- Columns `o … o + 511` of the weight's scales. -/
abbrev rS (o : ℕ) (h : o + 512 ≤ 9728) : Rect S1x9728 := Rect.unit (s := S1x9728) ![0, o] S1x512.size (inbS o h)
/-- Columns `o … o + 511` of the products. -/
abbrev rY (o : ℕ) (h : o + 512 ≤ 9728) : Rect S256x9728 := Rect.unit (s := S256x9728) ![0, o] S256x512.size (inbY o h)

/-- One chunk of products from the codes, the scales and the chunk's weight and weight scales. -/
def yOf (X : Vec F S256x2560 .fp8e4m3) (sc : FVec F S256x1 .f32) (wc : Vec F S2560x512 .fp8e4m3) (wsc : Vec F S1x512 .f32) : FVec F S256x512 .f32 :=
  mulf (mulf (matmul dot_S256x2560_S2560x512_S256x512_1_0_0_1_n_n none X wc (constant S256x512 .f32 0x00000000#32))
    (broadcastTo S256x512 sc broadcasts_S256x1_S256x512)) (broadcastTo S256x512 (shapeCast S1x512 wsc shapeCasts_S1x512_S1x512) broadcasts_S1x512_S256x512)
/-- The chunk of products at column `o`. -/
def yC (o : ℕ) (h : o + 512 ≤ 9728) : FVec F S256x512 .f32 :=
  yOf (cArr x g) (sCol x g) (View.ld w (rW o h)) (View.ld ws (rS o h))
/-- The running maxima of magnitudes, one chunk further. -/
def mStep (acc : FVec F S8x128 .f32) (y : FVec F S256x512 .f32) : FVec F S8x128 .f32 :=
  maximumf acc (multiReduction .maximumf [0, 2] S8x128 (shapeCast S32x8x4x128 (absf y) shapeCasts_S256x512_S32x8x4x128) 0xFF800000#32 reduces_S32x8x4x128_S8x128 (.inl rfl) rfl)
/-- The running maxima at the start: zero. -/
def m0 : FVec F S8x128 .f32 := broadcast S8x128 (Scalar.ofBits .f32 0x00000000#32)
/-- The running maxima's maximum. -/
def mTop (acc : FVec F S8x128 .f32) : F .f32 :=
  extractAt ![0, 0, 0] (shapeCast S1x1x1 (multiReduction .maximumf [1, 2] S1 (shapeCast S1x8x128 acc shapeCasts_S8x128_S1x8x128) 0xFF800000#32 reduces_S1x8x128_S1 (.inl rfl) rfl)
    shapeCasts_S1_S1x1x1) inpos_S1x1x1_p0_0_0
/-- The nineteen chunks of products, in order. -/
def ys : List (FVec F S256x512 .f32) :=
  [yC x g w ws 0 (by decide), yC x g w ws 512 (by decide), yC x g w ws 1024 (by decide), yC x g w ws 1536 (by decide),
   yC x g w ws 2048 (by decide), yC x g w ws 2560 (by decide), yC x g w ws 3072 (by decide), yC x g w ws 3584 (by decide),
   yC x g w ws 4096 (by decide), yC x g w ws 4608 (by decide), yC x g w ws 5120 (by decide), yC x g w ws 5632 (by decide),
   yC x g w ws 6144 (by decide), yC x g w ws 6656 (by decide), yC x g w ws 7168 (by decide), yC x g w ws 7680 (by decide),
   yC x g w ws 8192 (by decide), yC x g w ws 8704 (by decide), yC x g w ws 9216 (by decide)]
/-- The largest magnitude of the products. -/
def yMax : F .f32 := mTop ((ys x g w ws).foldl mStep m0)
/-- The output scale, a 1×1 array. -/
def yScale : FVec F S1x1 .f32 := extractStridedSlice S1x1 ![0, 0] (scaleOf (broadcast S8x128 (yMax x g w ws))) slices_S8x128_o0_0_S1x1
/-- The output scale's inverse, a 1×1 array. -/
def yInv : FVec F S1x1 .f32 := extractStridedSlice S1x1 ![0, 0] (invOf (broadcast S8x128 (yMax x g w ws))) slices_S8x128_o0_0_S1x1
/-- The output codes of a chunk. -/
def ycOf (y : FVec F S256x512 .f32) (inv : FVec F S1x1 .f32) : FVec F S256x512 .fp8e4m3 :=
  clipTo (mulf y (broadcastTo S256x512 inv broadcasts_S1x1_S256x512))
/-- The output codes of the chunk at column `o`, as a written piece. -/
def ycPiece (o : ℕ) (h : o + 512 ≤ 9728) : View.Piece (Elt F) S256x9728 .fp8e4m3 := ⟨rY o h, ycOf (yC x g w ws o h) (yInv x g w ws)⟩
/-- The output codes, the last chunk first. -/
def ycPieces : List (View.Piece (Elt F) S256x9728 .fp8e4m3) :=
  [ycPiece x g w ws 9216 (by decide), ycPiece x g w ws 8704 (by decide), ycPiece x g w ws 8192 (by decide), ycPiece x g w ws 7680 (by decide),
   ycPiece x g w ws 7168 (by decide), ycPiece x g w ws 6656 (by decide), ycPiece x g w ws 6144 (by decide), ycPiece x g w ws 5632 (by decide),
   ycPiece x g w ws 5120 (by decide), ycPiece x g w ws 4608 (by decide), ycPiece x g w ws 4096 (by decide), ycPiece x g w ws 3584 (by decide),
   ycPiece x g w ws 3072 (by decide), ycPiece x g w ws 2560 (by decide), ycPiece x g w ws 2048 (by decide), ycPiece x g w ws 1536 (by decide),
   ycPiece x g w ws 1024 (by decide), ycPiece x g w ws 512 (by decide), ycPiece x g w ws 0 (by decide)]
/-- The output codes. -/
def ycArr : Vec F S256x9728 .fp8e4m3 := View.canon (ycPieces x g w ws)

end Cert.KernelIdeal.Hand

end
-- ==== Proof.Value.lean ====
module

public import proofs.«01_k».proof.Proof.Run
public import proofs.«01_k».proof.Proof.Spec
public import Idealize.ShloMosaic.Lib.Pipeline.ValueKit
public import Idealize.ShloMosaic.Lib.Pipeline.ReadBack

/-! What the body's run leaves in its windows and in the two arrays it writes itself, in the terms of `Spec.lean`: every stored value of
    the run is read back through the stores before it, and the scratch buffers' entry contents drop out. -/

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]
variable (c : Dev nD) (arg1 : Memref sig .tc .vmem S1x2560 .f32) (arg3 : Memref sig .tc .vmem S1x9728 .f32)
  (f0 : HB F c xH) (f2 : HB F c wH) (g1 : HB F c arg1) (g3 : HB F c arg3)
  (s0 : HB F c xM)

/-! ## The loads -/

/-- The activations at rows `o …`, loaded from the copied-in buffer, are those of the operand. -/
theorem x_eq (o : ℕ) (h : o + 32 ≤ 256) : View.readAt (Elt F) xM.view (rRow o h).toLoadRect (View.write (Elt F) xM.view s0 (run0.sl.dma0 c f0) Finset.univ)
    = View.ld (xH.view.read (Elt F) f0) (rRow o h) := by
  funext j; exact congrFun (View.read_write_univ (v := xM.view) (Val := Elt F) s0 _) _
/-- The gains, loaded from their window, are the window's contents. -/
theorem g_eq : View.readAt (Elt F) arg1.view (Rect.unit ![0, 0] S1x2560.size inb_S1x2560_S1x2560_0_0).toLoadRect g1 = arg1.view.read (Elt F) g1 :=
  View.ld_unit_lit _ _ (by decide)

/-! ## The row blocks: the normalised rows read back, the scales, the codes -/

theorem h_0 : run0.sl.v180 c arg1 f0 g1 s0 = hBlk (View.ld (xH.view.read (Elt F) f0) (rRow 0 (by decide))) (arg1.view.read (Elt F) g1) := by
  unfold run0.sl.v180 run0.sl.HS1_1
  rw [View.readCov_cons_toLoadRect, ← g_eq, ← x_eq c f0 s0]
  exact shapeCast_self _ _
theorem s_0 : run0.sl.v174 c arg1 f0 g1 s0 = sBlk (View.ld (xH.view.read (Elt F) f0) (rRow 0 (by decide))) (arg1.view.read (Elt F) g1) := by
  rw [← g_eq, ← x_eq c f0 s0]; rfl
theorem c_0 : run0.sl.v190 c arg1 f0 g1 s0 = cBlk (View.ld (xH.view.read (Elt F) f0) (rRow 0 (by decide))) (arg1.view.read (Elt F) g1) := by
  refine (shapeCast_self _ _).trans ?_
  unfold cBlk
  rw [← h_0 c arg1 f0 g1 s0, ← g_eq, ← x_eq c f0 s0]
  rfl

theorem h_1 : run0.sl.v295 c arg1 f0 g1 s0 = hBlk (View.ld (xH.view.read (Elt F) f0) (rRow 32 (by decide))) (arg1.view.read (Elt F) g1) := by
  unfold run0.sl.v295 run0.sl.HS1_2
  rw [View.readCov_cons_toLoadRect, ← g_eq, ← x_eq c f0 s0]
  exact shapeCast_self _ _
theorem s_1 : run0.sl.r_6 c arg1 f0 g1 s0 = sBlk (View.ld (xH.view.read (Elt F) f0) (rRow 32 (by decide))) (arg1.view.read (Elt F) g1) := by
  rw [← g_eq, ← x_eq c f0 s0]; rfl
theorem c_1 : k0_pay25 (run0.sl.v280 c arg1 f0 g1 s0) (run0.sl.v282 c arg1 f0 g1 s0) 0#32 (run0.sl.v295 c arg1 f0 g1 s0) = cBlk (View.ld (xH.view.read (Elt F) f0) (rRow 32 (by decide))) (arg1.view.read (Elt F) g1) := by
  refine (shapeCast_self _ _).trans ?_
  unfold cBlk
  rw [← h_1 c arg1 f0 g1 s0, ← g_eq, ← x_eq c f0 s0]
  rfl

theorem h_2 : run0.sl.v410 c arg1 f0 g1 s0 = hBlk (View.ld (xH.view.read (Elt F) f0) (rRow 64 (by decide))) (arg1.view.read (Elt F) g1) := by
  unfold run0.sl.v410 run0.sl.HS1_3
  rw [View.readCov_cons_toLoadRect, ← g_eq, ← x_eq c f0 s0]
  exact shapeCast_self _ _
theorem s_2 : run0.sl.v404 c arg1 f0 g1 s0 = sBlk (View.ld (xH.view.read (Elt F) f0) (rRow 64 (by decide))) (arg1.view.read (Elt F) g1) := by
  rw [← g_eq, ← x_eq c f0 s0]; rfl
theorem c_2 : k0_pay35 (run0.sl.v409 c arg1 f0 g1 s0) (run0.sl.v410 c arg1 f0 g1 s0) = cBlk (View.ld (xH.view.read (Elt F) f0) (rRow 64 (by decide))) (arg1.view.read (Elt F) g1) := by
  refine (shapeCast_self _ _).trans ?_
  unfold cBlk
  rw [← h_2 c arg1 f0 g1 s0, ← g_eq, ← x_eq c f0 s0]
  rfl

theorem h_3 : run0.sl.v525 c arg1 f0 g1 s0 = hBlk (View.ld (xH.view.read (Elt F) f0) (rRow 96 (by decide))) (arg1.view.read (Elt F) g1) := by
  unfold run0.sl.v525 run0.sl.HS1_4
  rw [View.readCov_cons_toLoadRect, ← g_eq, ← x_eq c f0 s0]
  exact shapeCast_self _ _
theorem s_3 : run0.sl.v519 c arg1 f0 g1 s0 = sBlk (View.ld (xH.view.read (Elt F) f0) (rRow 96 (by decide))) (arg1.view.read (Elt F) g1) := by
  rw [← g_eq, ← x_eq c f0 s0]; rfl
theorem c_3 : run0.sl.v535 c arg1 f0 g1 s0 = cBlk (View.ld (xH.view.read (Elt F) f0) (rRow 96 (by decide))) (arg1.view.read (Elt F) g1) := by
  refine (shapeCast_self _ _).trans ?_
  unfold cBlk
  rw [← h_3 c arg1 f0 g1 s0, ← g_eq, ← x_eq c f0 s0]
  rfl

theorem h_4 : run0.sl.v640 c arg1 f0 g1 s0 = hBlk (View.ld (xH.view.read (Elt F) f0) (rRow 128 (by decide))) (arg1.view.read (Elt F) g1) := by
  unfold run0.sl.v640 run0.sl.HS1_5
  rw [View.readCov_cons_toLoadRect, ← g_eq, ← x_eq c f0 s0]
  exact shapeCast_self _ _
theorem s_4 : run0.sl.r_15 c arg1 f0 g1 s0 = sBlk (View.ld (xH.view.read (Elt F) f0) (rRow 128 (by decide))) (arg1.view.read (Elt F) g1) := by
  rw [← g_eq, ← x_eq c f0 s0]; rfl
theorem c_4 : k0_pay60 (run0.sl.v620 c arg1 f0 g1 s0) (run0.sl.v625 c arg1 f0 g1 s0) 126#32 (run0.sl.v640 c arg1 f0 g1 s0) = cBlk (View.ld (xH.view.read (Elt F) f0) (rRow 128 (by decide))) (arg1.view.read (Elt F) g1) := by
  refine (shapeCast_self _ _).trans ?_
  unfold cBlk
  rw [← h_4 c arg1 f0 g1 s0, ← g_eq, ← x_eq c f0 s0]
  rfl

theorem h_5 : run0.sl.v755 c arg1 f0 g1 s0 = hBlk (View.ld (xH.view.read (Elt F) f0) (rRow 160 (by decide))) (arg1.view.read (Elt F) g1) := by
  unfold run0.sl.v755 run0.sl.HS1_6
  rw [View.readCov_cons_toLoadRect, ← g_eq, ← x_eq c f0 s0]
  exact shapeCast_self _ _
theorem s_5 : run0.sl.v749 c arg1 f0 g1 s0 = sBlk (View.ld (xH.view.read (Elt F) f0) (rRow 160 (by decide))) (arg1.view.read (Elt F) g1) := by
  rw [← g_eq, ← x_eq c f0 s0]; rfl
theorem c_5 : k0_pay69 (run0.sl.v754 c arg1 f0 g1 s0) (run0.sl.v755 c arg1 f0 g1 s0) = cBlk (View.ld (xH.view.read (Elt F) f0) (rRow 160 (by decide))) (arg1.view.read (Elt F) g1) := by
  refine (shapeCast_self _ _).trans ?_
  unfold cBlk
  rw [← h_5 c arg1 f0 g1 s0, ← g_eq, ← x_eq c f0 s0]
  rfl

theorem h_6 : run0.sl.v870 c arg1 f0 g1 s0 = hBlk (View.ld (xH.view.read (Elt F) f0) (rRow 192 (by decide))) (arg1.view.read (Elt F) g1) := by
  unfold run0.sl.v870 run0.sl.HS1_7
  rw [View.readCov_cons_toLoadRect, ← g_eq, ← x_eq c f0 s0]
  exact shapeCast_self _ _
theorem s_6 : run0.sl.v864 c arg1 f0 g1 s0 = sBlk (View.ld (xH.view.read (Elt F) f0) (rRow 192 (by decide))) (arg1.view.read (Elt F) g1) := by
  rw [← g_eq, ← x_eq c f0 s0]; rfl
theorem c_6 : run0.sl.v880 c arg1 f0 g1 s0 = cBlk (View.ld (xH.view.read (Elt F) f0) (rRow 192 (by decide))) (arg1.view.read (Elt F) g1) := by
  refine (shapeCast_self _ _).trans ?_
  unfold cBlk
  rw [← h_6 c arg1 f0 g1 s0, ← g_eq, ← x_eq c f0 s0]
  rfl

theorem h_7 : run0.sl.v985 c arg1 f0 g1 s0 = hBlk (View.ld (xH.view.read (Elt F) f0) (rRow 224 (by decide))) (arg1.view.read (Elt F) g1) := by
  unfold run0.sl.v985 run0.sl.HS1_8
  rw [View.readCov_cons_toLoadRect, ← g_eq, ← x_eq c f0 s0]
  exact shapeCast_self _ _
theorem s_7 : run0.sl.v979 c arg1 f0 g1 s0 = sBlk (View.ld (xH.view.read (Elt F) f0) (rRow 224 (by decide))) (arg1.view.read (Elt F) g1) := by
  rw [← g_eq, ← x_eq c f0 s0]; rfl
theorem c_7 : run0.sl.v995 c arg1 f0 g1 s0 = cBlk (View.ld (xH.view.read (Elt F) f0) (rRow 224 (by decide))) (arg1.view.read (Elt F) g1) := by
  refine (shapeCast_self _ _).trans ?_
  unfold cBlk
  rw [← h_7 c arg1 f0 g1 s0, ← g_eq, ← x_eq c f0 s0]
  rfl

/-- The blocks' scales, one under the other. -/
theorem sc_eq : run0.sl.v996 c arg1 f0 g1 s0 = sCol (xH.view.read (Elt F) f0) (arg1.view.read (Elt F) g1) := by
  unfold run0.sl.v996 sCol
  rw [s_0 c arg1 f0 g1 s0, s_1 c arg1 f0 g1 s0, s_2 c arg1 f0 g1 s0, s_3 c arg1 f0 g1 s0, s_4 c arg1 f0 g1 s0, s_5 c arg1 f0 g1 s0, s_6 c arg1 f0 g1 s0, s_7 c arg1 f0 g1 s0]
/-- The row of scales that is stored. -/
theorem xs_eq : run0.sl.v997 c arg1 f0 g1 s0 = sRow (xH.view.read (Elt F) f0) (arg1.view.read (Elt F) g1) := by
  unfold run0.sl.v997 sRow
  rw [sc_eq c arg1 f0 g1 s0]
/-- The codes stored, the last block first. -/
theorem xcL_eq : run0.sl.HS2_8 c arg1 f0 g1 s0 = cPieces (xH.view.read (Elt F) f0) (arg1.view.read (Elt F) g1) := by
  unfold run0.sl.HS2_8 run0.sl.HS2_7 run0.sl.HS2_6 run0.sl.HS2_5 run0.sl.HS2_4 run0.sl.HS2_3 run0.sl.HS2_2 run0.sl.HS2_1
  rw [c_0 c arg1 f0 g1 s0, c_1 c arg1 f0 g1 s0, c_2 c arg1 f0 g1 s0, c_3 c arg1 f0 g1 s0, c_4 c arg1 f0 g1 s0, c_5 c arg1 f0 g1 s0, c_6 c arg1 f0 g1 s0, c_7 c arg1 f0 g1 s0]
  rfl
/-- The codes' blocks cover their array. -/
theorem cPieces_cover (x : Vec F S256x2560 .bf16) (g : Vec F S1x2560 .f32) : ∀ y : S256x2560.Idx, ∃ p ∈ cPieces x g, y ∈ p.1.set :=
  View.cover_of_tiledL (cPieces x g) S32x2560.size (by sl_kernel_rfl)
/-- The codes, read back whole. -/
theorem xc_eq : run0.sl.v1004 c arg1 f0 g1 s0 = cArr (xH.view.read (Elt F) f0) (arg1.view.read (Elt F) g1) := by
  unfold run0.sl.v1004
  rw [View.readCov_eq_canon', xcL_eq c arg1 f0 g1 s0]
  exact View.ld_unit_lit _ _ (by decide)
/-- The codes, copied out whole. -/
theorem xcOut_eq (s2 : HB F c xcM) : run0.sl.dma56 c arg1 f0 g1 s0 s2 = cArr (xH.view.read (Elt F) f0) (arg1.view.read (Elt F) g1) := by
  unfold run0.sl.dma56
  rw [xcL_eq c arg1 f0 g1 s0]
  exact View.read_writes_eq_canon xcM.view s2 _ (cPieces_cover _ _)

/-! ## The column chunks: the weights loaded, the products, the running maxima -/

theorem w_0 : run0.sl.v1005 c f2 = View.ld (wH.view.read (Elt F) f2) (rW 0 (by decide)) := by
  unfold run0.sl.v1005
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_0 : run0.sl.v1012 c arg1 arg3 f0 f2 g1 g3 s0 = yC (xH.view.read (Elt F) f0) (arg1.view.read (Elt F) g1) (wH.view.read (Elt F) f2) (arg3.view.read (Elt F) g3) 0 (by decide) := by
  unfold yC
  rw [← xc_eq c arg1 f0 g1 s0, ← sc_eq c arg1 f0 g1 s0, ← w_0 c f2]
  rfl
theorem yS_0 : run0.sl.v1015 c arg1 arg3 f0 f2 g1 g3 s0 = yC (xH.view.read (Elt F) f0) (arg1.view.read (Elt F) g1) (wH.view.read (Elt F) f2) (arg3.view.read (Elt F) g3) 0 (by decide) :=
  (shapeCast_self _ _).trans (y_0 c arg1 arg3 f0 f2 g1 g3 s0)
theorem m_0 : run0.sl.v1019 c arg1 arg3 f0 f2 g1 g3 s0 = mStep (m0) (yC (xH.view.read (Elt F) f0) (arg1.view.read (Elt F) g1) (wH.view.read (Elt F) f2) (arg3.view.read (Elt F) g3) 0 (by decide)) := by
  rw [← y_0 c arg1 arg3 f0 f2 g1 g3 s0]; rfl

theorem w_1 : run0.sl.v1025 c f2 = View.ld (wH.view.read (Elt F) f2) (rW 512 (by decide)) := by
  unfold run0.sl.v1025
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_1 : run0.sl.v1032 c arg1 arg3 f0 f2 g1 g3 s0 = yC (xH.view.read (Elt F) f0) (arg1.view.read (Elt F) g1) (wH.view.read (Elt F) f2) (arg3.view.read (Elt F) g3) 512 (by decide) := by
  unfold yC
  rw [← xc_eq c arg1 f0 g1 s0, ← sc_eq c arg1 f0 g1 s0, ← w_1 c f2]
  rfl
theorem yS_1 : run0.sl.v1035 c arg1 arg3 f0 f2 g1 g3 s0 = yC (xH.view.read (Elt F) f0) (arg1.view.read (Elt F) g1) (wH.view.read (Elt F) f2) (arg3.view.read (Elt F) g3) 512 (by decide) :=
  (shapeCast_self _ _).trans (y_1 c arg1 arg3 f0 f2 g1 g3 s0)
theorem m_1 : run0.sl.v1039 c arg1 arg3 f0 f2 g1 g3 s0 = mStep (run0.sl.v1019 c arg1 arg3 f0 f2 g1 g3 s0) (yC (xH.view.read (Elt F) f0) (arg1.view.read (Elt F) g1) (wH.view.read (Elt F) f2) (arg3.view.read (Elt F) g3) 512 (by decide)) := by
  rw [← y_1 c arg1 arg3 f0 f2 g1 g3 s0]; rfl

theorem w_2 : run0.sl.v1045 c f2 = View.ld (wH.view.read (Elt F) f2) (rW 1024 (by decide)) := by
  unfold run0.sl.v1045
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_2 : run0.sl.v1052 c arg1 arg3 f0 f2 g1 g3 s0 = yC (xH.view.read (Elt F) f0) (arg1.view.read (Elt F) g1) (wH.view.read (Elt F) f2) (arg3.view.read (Elt F) g3) 1024 (by decide) := by
  unfold yC
  rw [← xc_eq c arg1 f0 g1 s0, ← sc_eq c arg1 f0 g1 s0, ← w_2 c f2]
  rfl
theorem yS_2 : run0.sl.v1055 c arg1 arg3 f0 f2 g1 g3 s0 = yC (xH.view.read (Elt F) f0) (arg1.view.read (Elt F) g1) (wH.view.read (Elt F) f2) (arg3.view.read (Elt F) g3) 1024 (by decide) :=
  (shapeCast_self _ _).trans (y_2 c arg1 arg3 f0 f2 g1 g3 s0)
theorem m_2 : run0.sl.v1059 c arg1 arg3 f0 f2 g1 g3 s0 = mStep (run0.sl.v1039 c arg1 arg3 f0 f2 g1 g3 s0) (yC (xH.view.read (Elt F) f0) (arg1.view.read (Elt F) g1) (wH.view.read (Elt F) f2) (arg3.view.read (Elt F) g3) 1024 (by decide)) := by
  rw [← y_2 c arg1 arg3 f0 f2 g1 g3 s0]; rfl

theorem w_3 : run0.sl.v1065 c f2 = View.ld (wH.view.read (Elt F) f2) (rW 1536 (by decide)) := by
  unfold run0.sl.v1065
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_3 : run0.sl.v1072 c arg1 arg3 f0 f2 g1 g3 s0 = yC (xH.view.read (Elt F) f0) (arg1.view.read (Elt F) g1) (wH.view.read (Elt F) f2) (arg3.view.read (Elt F) g3) 1536 (by decide) := by
  unfold yC
  rw [← xc_eq c arg1 f0 g1 s0, ← sc_eq c arg1 f0 g1 s0, ← w_3 c f2]
  rfl
theorem yS_3 : run0.sl.v1075 c arg1 arg3 f0 f2 g1 g3 s0 = yC (xH.view.read (Elt F) f0) (arg1.view.read (Elt F) g1) (wH.view.read (Elt F) f2) (arg3.view.read (Elt F) g3) 1536 (by decide) :=
  (shapeCast_self _ _).trans (y_3 c arg1 arg3 f0 f2 g1 g3 s0)
theorem m_3 : run0.sl.v1079 c arg1 arg3 f0 f2 g1 g3 s0 = mStep (run0.sl.v1059 c arg1 arg3 f0 f2 g1 g3 s0) (yC (xH.view.read (Elt F) f0) (arg1.view.read (Elt F) g1) (wH.view.read (Elt F) f2) (arg3.view.read (Elt F) g3) 1536 (by decide)) := by
  rw [← y_3 c arg1 arg3 f0 f2 g1 g3 s0]; rfl

theorem w_4 : run0.sl.v1085 c f2 = View.ld (wH.view.read (Elt F) f2) (rW 2048 (by decide)) := by
  unfold run0.sl.v1085
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_4 : run0.sl.v1092 c arg1 arg3 f0 f2 g1 g3 s0 = yC (xH.view.read (Elt F) f0) (arg1.view.read (Elt F) g1) (wH.view.read (Elt F) f2) (arg3.view.read (Elt F) g3) 2048 (by decide) := by
  unfold yC
  rw [← xc_eq c arg1 f0 g1 s0, ← sc_eq c arg1 f0 g1 s0, ← w_4 c f2]
  rfl
theorem yS_4 : run0.sl.v1095 c arg1 arg3 f0 f2 g1 g3 s0 = yC (xH.view.read (Elt F) f0) (arg1.view.read (Elt F) g1) (wH.view.read (Elt F) f2) (arg3.view.read (Elt F) g3) 2048 (by decide) :=
  (shapeCast_self _ _).trans (y_4 c arg1 arg3 f0 f2 g1 g3 s0)
theorem m_4 : run0.sl.v1099 c arg1 arg3 f0 f2 g1 g3 s0 = mStep (run0.sl.v1079 c arg1 arg3 f0 f2 g1 g3 s0) (yC (xH.view.read (Elt F) f0) (arg1.view.read (Elt F) g1) (wH.view.read (Elt F) f2) (arg3.view.read (Elt F) g3) 2048 (by decide)) := by
  rw [← y_4 c arg1 arg3 f0 f2 g1 g3 s0]; rfl

theorem w_5 : run0.sl.v1105 c f2 = View.ld (wH.view.read (Elt F) f2) (rW 2560 (by decide)) := by
  unfold run0.sl.v1105
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_5 : run0.sl.v1112 c arg1 arg3 f0 f2 g1 g3 s0 = yC (xH.view.read (Elt F) f0) (arg1.view.read (Elt F) g1) (wH.view.read (Elt F) f2) (arg3.view.read (Elt F) g3) 2560 (by decide) := by
  unfold yC
  rw [← xc_eq c arg1 f0 g1 s0, ← sc_eq c arg1 f0 g1 s0, ← w_5 c f2]
  rfl
theorem yS_5 : run0.sl.v1115 c arg1 arg3 f0 f2 g1 g3 s0 = yC (xH.view.read (Elt F) f0) (arg1.view.read (Elt F) g1) (wH.view.read (Elt F) f2) (arg3.view.read (Elt F) g3) 2560 (by decide) :=
  (shapeCast_self _ _).trans (y_5 c arg1 arg3 f0 f2 g1 g3 s0)
theorem m_5 : run0.sl.v1119 c arg1 arg3 f0 f2 g1 g3 s0 = mStep (run0.sl.v1099 c arg1 arg3 f0 f2 g1 g3 s0) (yC (xH.view.read (Elt F) f0) (arg1.view.read (Elt F) g1) (wH.view.read (Elt F) f2) (arg3.view.read (Elt F) g3) 2560 (by decide)) := by
  rw [← y_5 c arg1 arg3 f0 f2 g1 g3 s0]; rfl

theorem w_6 : run0.sl.v1125 c f2 = View.ld (wH.view.read (Elt F) f2) (rW 3072 (by decide)) := by
  unfold run0.sl.v1125
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_6 : run0.sl.v1132 c arg1 arg3 f0 f2 g1 g3 s0 = yC (xH.view.read (Elt F) f0) (arg1.view.read (Elt F) g1) (wH.view.read (Elt F) f2) (arg3.view.read (Elt F) g3) 3072 (by decide) := by
  unfold yC
  rw [← xc_eq c arg1 f0 g1 s0, ← sc_eq c arg1 f0 g1 s0, ← w_6 c f2]
  rfl
theorem yS_6 : run0.sl.v1135 c arg1 arg3 f0 f2 g1 g3 s0 = yC (xH.view.read (Elt F) f0) (arg1.view.read (Elt F) g1) (wH.view.read (Elt F) f2) (arg3.view.read (Elt F) g3) 3072 (by decide) :=
  (shapeCast_self _ _).trans (y_6 c arg1 arg3 f0 f2 g1 g3 s0)
theorem m_6 : run0.sl.v1139 c arg1 arg3 f0 f2 g1 g3 s0 = mStep (run0.sl.v1119 c arg1 arg3 f0 f2 g1 g3 s0) (yC (xH.view.read (Elt F) f0) (arg1.view.read (Elt F) g1) (wH.view.read (Elt F) f2) (arg3.view.read (Elt F) g3) 3072 (by decide)) := by
  rw [← y_6 c arg1 arg3 f0 f2 g1 g3 s0]; rfl

theorem w_7 : run0.sl.v1145 c f2 = View.ld (wH.view.read (Elt F) f2) (rW 3584 (by decide)) := by
  unfold run0.sl.v1145
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_7 : run0.sl.v1152 c arg1 arg3 f0 f2 g1 g3 s0 = yC (xH.view.read (Elt F) f0) (arg1.view.read (Elt F) g1) (wH.view.read (Elt F) f2) (arg3.view.read (Elt F) g3) 3584 (by decide) := by
  unfold yC
  rw [← xc_eq c arg1 f0 g1 s0, ← sc_eq c arg1 f0 g1 s0, ← w_7 c f2]
  rfl
theorem yS_7 : run0.sl.v1155 c arg1 arg3 f0 f2 g1 g3 s0 = yC (xH.view.read (Elt F) f0) (arg1.view.read (Elt F) g1) (wH.view.read (Elt F) f2) (arg3.view.read (Elt F) g3) 3584 (by decide) :=
  (shapeCast_self _ _).trans (y_7 c arg1 arg3 f0 f2 g1 g3 s0)
theorem m_7 : run0.sl.v1159 c arg1 arg3 f0 f2 g1 g3 s0 = mStep (run0.sl.v1139 c arg1 arg3 f0 f2 g1 g3 s0) (yC (xH.view.read (Elt F) f0) (arg1.view.read (Elt F) g1) (wH.view.read (Elt F) f2) (arg3.view.read (Elt F) g3) 3584 (by decide)) := by
  rw [← y_7 c arg1 arg3 f0 f2 g1 g3 s0]; rfl

theorem w_8 : run0.sl.v1165 c f2 = View.ld (wH.view.read (Elt F) f2) (rW 4096 (by decide)) := by
  unfold run0.sl.v1165
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_8 : run0.sl.v1172 c arg1 arg3 f0 f2 g1 g3 s0 = yC (xH.view.read (Elt F) f0) (arg1.view.read (Elt F) g1) (wH.view.read (Elt F) f2) (arg3.view.read (Elt F) g3) 4096 (by decide) := by
  unfold yC
  rw [← xc_eq c arg1 f0 g1 s0, ← sc_eq c arg1 f0 g1 s0, ← w_8 c f2]
  rfl
theorem yS_8 : run0.sl.v1175 c arg1 arg3 f0 f2 g1 g3 s0 = yC (xH.view.read (Elt F) f0) (arg1.view.read (Elt F) g1) (wH.view.read (Elt F) f2) (arg3.view.read (Elt F) g3) 4096 (by decide) :=
  (shapeCast_self _ _).trans (y_8 c arg1 arg3 f0 f2 g1 g3 s0)
theorem m_8 : run0.sl.v1179 c arg1 arg3 f0 f2 g1 g3 s0 = mStep (run0.sl.v1159 c arg1 arg3 f0 f2 g1 g3 s0) (yC (xH.view.read (Elt F) f0) (arg1.view.read (Elt F) g1) (wH.view.read (Elt F) f2) (arg3.view.read (Elt F) g3) 4096 (by decide)) := by
  rw [← y_8 c arg1 arg3 f0 f2 g1 g3 s0]; rfl

theorem w_9 : run0.sl.v1185 c f2 = View.ld (wH.view.read (Elt F) f2) (rW 4608 (by decide)) := by
  unfold run0.sl.v1185
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_9 : run0.sl.v1192 c arg1 arg3 f0 f2 g1 g3 s0 = yC (xH.view.read (Elt F) f0) (arg1.view.read (Elt F) g1) (wH.view.read (Elt F) f2) (arg3.view.read (Elt F) g3) 4608 (by decide) := by
  unfold yC
  rw [← xc_eq c arg1 f0 g1 s0, ← sc_eq c arg1 f0 g1 s0, ← w_9 c f2]
  rfl
theorem yS_9 : run0.sl.v1195 c arg1 arg3 f0 f2 g1 g3 s0 = yC (xH.view.read (Elt F) f0) (arg1.view.read (Elt F) g1) (wH.view.read (Elt F) f2) (arg3.view.read (Elt F) g3) 4608 (by decide) :=
  (shapeCast_self _ _).trans (y_9 c arg1 arg3 f0 f2 g1 g3 s0)
theorem m_9 : run0.sl.v1199 c arg1 arg3 f0 f2 g1 g3 s0 = mStep (run0.sl.v1179 c arg1 arg3 f0 f2 g1 g3 s0) (yC (xH.view.read (Elt F) f0) (arg1.view.read (Elt F) g1) (wH.view.read (Elt F) f2) (arg3.view.read (Elt F) g3) 4608 (by decide)) := by
  rw [← y_9 c arg1 arg3 f0 f2 g1 g3 s0]; rfl

theorem w_10 : run0.sl.v1205 c f2 = View.ld (wH.view.read (Elt F) f2) (rW 5120 (by decide)) := by
  unfold run0.sl.v1205
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_10 : run0.sl.v1212 c arg1 arg3 f0 f2 g1 g3 s0 = yC (xH.view.read (Elt F) f0) (arg1.view.read (Elt F) g1) (wH.view.read (Elt F) f2) (arg3.view.read (Elt F) g3) 5120 (by decide) := by
  unfold yC
  rw [← xc_eq c arg1 f0 g1 s0, ← sc_eq c arg1 f0 g1 s0, ← w_10 c f2]
  rfl
theorem yS_10 : run0.sl.v1215 c arg1 arg3 f0 f2 g1 g3 s0 = yC (xH.view.read (Elt F) f0) (arg1.view.read (Elt F) g1) (wH.view.read (Elt F) f2) (arg3.view.read (Elt F) g3) 5120 (by decide) :=
  (shapeCast_self _ _).trans (y_10 c arg1 arg3 f0 f2 g1 g3 s0)
theorem m_10 : run0.sl.v1219 c arg1 arg3 f0 f2 g1 g3 s0 = mStep (run0.sl.v1199 c arg1 arg3 f0 f2 g1 g3 s0) (yC (xH.view.read (Elt F) f0) (arg1.view.read (Elt F) g1) (wH.view.read (Elt F) f2) (arg3.view.read (Elt F) g3) 5120 (by decide)) := by
  rw [← y_10 c arg1 arg3 f0 f2 g1 g3 s0]; rfl

theorem w_11 : run0.sl.v1225 c f2 = View.ld (wH.view.read (Elt F) f2) (rW 5632 (by decide)) := by
  unfold run0.sl.v1225
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_11 : run0.sl.v1232 c arg1 arg3 f0 f2 g1 g3 s0 = yC (xH.view.read (Elt F) f0) (arg1.view.read (Elt F) g1) (wH.view.read (Elt F) f2) (arg3.view.read (Elt F) g3) 5632 (by decide) := by
  unfold yC
  rw [← xc_eq c arg1 f0 g1 s0, ← sc_eq c arg1 f0 g1 s0, ← w_11 c f2]
  rfl
theorem yS_11 : run0.sl.v1235 c arg1 arg3 f0 f2 g1 g3 s0 = yC (xH.view.read (Elt F) f0) (arg1.view.read (Elt F) g1) (wH.view.read (Elt F) f2) (arg3.view.read (Elt F) g3) 5632 (by decide) :=
  (shapeCast_self _ _).trans (y_11 c arg1 arg3 f0 f2 g1 g3 s0)
theorem m_11 : run0.sl.v1239 c arg1 arg3 f0 f2 g1 g3 s0 = mStep (run0.sl.v1219 c arg1 arg3 f0 f2 g1 g3 s0) (yC (xH.view.read (Elt F) f0) (arg1.view.read (Elt F) g1) (wH.view.read (Elt F) f2) (arg3.view.read (Elt F) g3) 5632 (by decide)) := by
  rw [← y_11 c arg1 arg3 f0 f2 g1 g3 s0]; rfl

theorem w_12 : run0.sl.v1245 c f2 = View.ld (wH.view.read (Elt F) f2) (rW 6144 (by decide)) := by
  unfold run0.sl.v1245
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_12 : run0.sl.v1252 c arg1 arg3 f0 f2 g1 g3 s0 = yC (xH.view.read (Elt F) f0) (arg1.view.read (Elt F) g1) (wH.view.read (Elt F) f2) (arg3.view.read (Elt F) g3) 6144 (by decide) := by
  unfold yC
  rw [← xc_eq c arg1 f0 g1 s0, ← sc_eq c arg1 f0 g1 s0, ← w_12 c f2]
  rfl
theorem yS_12 : run0.sl.v1255 c arg1 arg3 f0 f2 g1 g3 s0 = yC (xH.view.read (Elt F) f0) (arg1.view.read (Elt F) g1) (wH.view.read (Elt F) f2) (arg3.view.read (Elt F) g3) 6144 (by decide) :=
  (shapeCast_self _ _).trans (y_12 c arg1 arg3 f0 f2 g1 g3 s0)
theorem m_12 : run0.sl.v1259 c arg1 arg3 f0 f2 g1 g3 s0 = mStep (run0.sl.v1239 c arg1 arg3 f0 f2 g1 g3 s0) (yC (xH.view.read (Elt F) f0) (arg1.view.read (Elt F) g1) (wH.view.read (Elt F) f2) (arg3.view.read (Elt F) g3) 6144 (by decide)) := by
  rw [← y_12 c arg1 arg3 f0 f2 g1 g3 s0]; rfl

theorem w_13 : run0.sl.v1265 c f2 = View.ld (wH.view.read (Elt F) f2) (rW 6656 (by decide)) := by
  unfold run0.sl.v1265
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  rfl
theorem y_13 : run0.sl.v1272 c arg1 arg3 f0 f2 g1 g3 s0 = yC (xH.view.read (Elt F) f0) (arg1.view.read (Elt F) g1) (wH.view.read (Elt F) f2) (arg3.view.read (Elt F) g3) 6656 (by decide) := by
  unfold yC
  rw [← xc_eq c arg1 f0 g1 s0, ← sc_eq c arg1 f0 g1 s0, ← w_13 c f2]
  rfl
theorem yS_13 : run0.sl.v1275 c arg1 arg3 f0 f2 g1 g3 s0 = yC (xH.view.read (Elt F) f0) (arg1.view.read (Elt F) g1) (wH.view.read (Elt F) f2) (arg3.view.read (Elt F) g3) 6656 (by decide) :=
  (shapeCast_self _ _).trans (y_13 c arg1 arg3 f0 f2 g1 g3 s0)
theorem m_13 : run0.sl.v1279 c arg1 arg3 f0 f2 g1 g3 s0 = mStep (run0.sl.v1259 c arg1 arg3 f0 f2 g1 g3 s0) (yC (xH.view.read (Elt F) f0) (arg1.view.read (Elt F) g1) (wH.view.read (Elt F) f2) (arg3.view.read (Elt F) g3) 6656 (by decide)) := by
  rw [← y_13 c arg1 arg3 f0 f2 g1 g3 s0]; rfl

theorem w_14 : run0.sl.v1285 c f2 = View.ld (wH.view.read (Elt F) f2) (rW 7168 (by decide)) := by
  unfold run0.sl.v1285
  rw [View.readCov_skip _ _ _ _ _ (by decide), View.readCov_skip _ _ _ _ _ (by decide), View.readCov_skip _ _ _ _ _ (by decide), View.readCov_skip _ _ _ _ _ (by decide), View.readCov_cons_toLoadRect]
  rfl
theorem y_14 : run0.sl.v1292 c arg1 arg3 f0 f2 g1 g3 s0 = yC (xH.view.read (Elt F) f0) (arg1.view.read (Elt F) g1) (wH.view.read (Elt F) f2) (arg3.view.read (Elt F) g3) 7168 (by decide) := by
  unfold yC
  rw [← xc_eq c arg1 f0 g1 s0, ← sc_eq c arg1 f0 g1 s0, ← w_14 c f2]
  rfl
theorem yS_14 : run0.sl.v1295 c arg1 arg3 f0 f2 g1 g3 s0 = yC (xH.view.read (Elt F) f0) (arg1.view.read (Elt F) g1) (wH.view.read (Elt F) f2) (arg3.view.read (Elt F) g3) 7168 (by decide) :=
  (shapeCast_self _ _).trans (y_14 c arg1 arg3 f0 f2 g1 g3 s0)
theorem m_14 : run0.sl.v1299 c arg1 arg3 f0 f2 g1 g3 s0 = mStep (run0.sl.v1279 c arg1 arg3 f0 f2 g1 g3 s0) (yC (xH.view.read (Elt F) f0) (arg1.view.read (Elt F) g1) (wH.view.read (Elt F) f2) (arg3.view.read (Elt F) g3) 7168 (by decide)) := by
  rw [← y_14 c arg1 arg3 f0 f2 g1 g3 s0]; rfl

theorem w_15 : run0.sl.v1305 c f2 = View.ld (wH.view.read (Elt F) f2) (rW 7680 (by decide)) := by
  unfold run0.sl.v1305
  rw [View.readCov_skip _ _ _ _ _ (by decide), View.readCov_skip _ _ _ _ _ (by decide), View.readCov_skip _ _ _ _ _ (by decide), View.readCov_cons_toLoadRect]
  rfl
theorem y_15 : run0.sl.v1312 c arg1 arg3 f0 f2 g1 g3 s0 = yC (xH.view.read (Elt F) f0) (arg1.view.read (Elt F) g1) (wH.view.read (Elt F) f2) (arg3.view.read (Elt F) g3) 7680 (by decide) := by
  unfold yC
  rw [← xc_eq c arg1 f0 g1 s0, ← sc_eq c arg1 f0 g1 s0, ← w_15 c f2]
  rfl
theorem yS_15 : run0.sl.v1315 c arg1 arg3 f0 f2 g1 g3 s0 = yC (xH.view.read (Elt F) f0) (arg1.view.read (Elt F) g1) (wH.view.read (Elt F) f2) (arg3.view.read (Elt F) g3) 7680 (by decide) :=
  (shapeCast_self _ _).trans (y_15 c arg1 arg3 f0 f2 g1 g3 s0)
theorem m_15 : run0.sl.v1319 c arg1 arg3 f0 f2 g1 g3 s0 = mStep (run0.sl.v1299 c arg1 arg3 f0 f2 g1 g3 s0) (yC (xH.view.read (Elt F) f0) (arg1.view.read (Elt F) g1) (wH.view.read (Elt F) f2) (arg3.view.read (Elt F) g3) 7680 (by decide)) := by
  rw [← y_15 c arg1 arg3 f0 f2 g1 g3 s0]; rfl

theorem w_16 : run0.sl.v1325 c f2 = View.ld (wH.view.read (Elt F) f2) (rW 8192 (by decide)) := by
  unfold run0.sl.v1325
  rw [View.readCov_skip _ _ _ _ _ (by decide), View.readCov_skip _ _ _ _ _ (by decide), View.readCov_cons_toLoadRect]
  rfl
theorem y_16 : run0.sl.v1332 c arg1 arg3 f0 f2 g1 g3 s0 = yC (xH.view.read (Elt F) f0) (arg1.view.read (Elt F) g1) (wH.view.read (Elt F) f2) (arg3.view.read (Elt F) g3) 8192 (by decide) := by
  unfold yC
  rw [← xc_eq c arg1 f0 g1 s0, ← sc_eq c arg1 f0 g1 s0, ← w_16 c f2]
  rfl
theorem yS_16 : run0.sl.v1335 c arg1 arg3 f0 f2 g1 g3 s0 = yC (xH.view.read (Elt F) f0) (arg1.view.read (Elt F) g1) (wH.view.read (Elt F) f2) (arg3.view.read (Elt F) g3) 8192 (by decide) :=
  (shapeCast_self _ _).trans (y_16 c arg1 arg3 f0 f2 g1 g3 s0)
theorem m_16 : run0.sl.v1339 c arg1 arg3 f0 f2 g1 g3 s0 = mStep (run0.sl.v1319 c arg1 arg3 f0 f2 g1 g3 s0) (yC (xH.view.read (Elt F) f0) (arg1.view.read (Elt F) g1) (wH.view.read (Elt F) f2) (arg3.view.read (Elt F) g3) 8192 (by decide)) := by
  rw [← y_16 c arg1 arg3 f0 f2 g1 g3 s0]; rfl

theorem w_17 : run0.sl.v1345 c f2 = View.ld (wH.view.read (Elt F) f2) (rW 8704 (by decide)) := by
  unfold run0.sl.v1345
  rw [View.readCov_skip _ _ _ _ _ (by decide), View.readCov_cons_toLoadRect]
  rfl
theorem y_17 : run0.sl.v1352 c arg1 arg3 f0 f2 g1 g3 s0 = yC (xH.view.read (Elt F) f0) (arg1.view.read (Elt F) g1) (wH.view.read (Elt F) f2) (arg3.view.read (Elt F) g3) 8704 (by decide) := by
  unfold yC
  rw [← xc_eq c arg1 f0 g1 s0, ← sc_eq c arg1 f0 g1 s0, ← w_17 c f2]
  rfl
theorem yS_17 : run0.sl.v1355 c arg1 arg3 f0 f2 g1 g3 s0 = yC (xH.view.read (Elt F) f0) (arg1.view.read (Elt F) g1) (wH.view.read (Elt F) f2) (arg3.view.read (Elt F) g3) 8704 (by decide) :=
  (shapeCast_self _ _).trans (y_17 c arg1 arg3 f0 f2 g1 g3 s0)
theorem m_17 : run0.sl.v1359 c arg1 arg3 f0 f2 g1 g3 s0 = mStep (run0.sl.v1339 c arg1 arg3 f0 f2 g1 g3 s0) (yC (xH.view.read (Elt F) f0) (arg1.view.read (Elt F) g1) (wH.view.read (Elt F) f2) (arg3.view.read (Elt F) g3) 8704 (by decide)) := by
  rw [← y_17 c arg1 arg3 f0 f2 g1 g3 s0]; rfl

theorem w_18 : run0.sl.v1365 c f2 = View.ld (wH.view.read (Elt F) f2) (rW 9216 (by decide)) := by
  unfold run0.sl.v1365
  rw [View.readCov_cons_toLoadRect]
  rfl
theorem y_18 : run0.sl.v1372 c arg1 arg3 f0 f2 g1 g3 s0 = yC (xH.view.read (Elt F) f0) (arg1.view.read (Elt F) g1) (wH.view.read (Elt F) f2) (arg3.view.read (Elt F) g3) 9216 (by decide) := by
  unfold yC
  rw [← xc_eq c arg1 f0 g1 s0, ← sc_eq c arg1 f0 g1 s0, ← w_18 c f2]
  rfl
theorem yS_18 : run0.sl.v1375 c arg1 arg3 f0 f2 g1 g3 s0 = yC (xH.view.read (Elt F) f0) (arg1.view.read (Elt F) g1) (wH.view.read (Elt F) f2) (arg3.view.read (Elt F) g3) 9216 (by decide) :=
  (shapeCast_self _ _).trans (y_18 c arg1 arg3 f0 f2 g1 g3 s0)
theorem m_18 : run0.sl.v1379 c arg1 arg3 f0 f2 g1 g3 s0 = mStep (run0.sl.v1359 c arg1 arg3 f0 f2 g1 g3 s0) (yC (xH.view.read (Elt F) f0) (arg1.view.read (Elt F) g1) (wH.view.read (Elt F) f2) (arg3.view.read (Elt F) g3) 9216 (by decide)) := by
  rw [← y_18 c arg1 arg3 f0 f2 g1 g3 s0]; rfl

/-- The largest magnitude of the products. -/
theorem ymax_eq : run0.sl.v1383 c arg1 arg3 f0 f2 g1 g3 s0 = yMax (xH.view.read (Elt F) f0) (arg1.view.read (Elt F) g1) (wH.view.read (Elt F) f2) (arg3.view.read (Elt F) g3) := by
  refine Eq.trans (b := mTop (run0.sl.v1379 c arg1 arg3 f0 f2 g1 g3 s0)) rfl ?_
  rw [m_18 c arg1 arg3 f0 f2 g1 g3 s0, m_17 c arg1 arg3 f0 f2 g1 g3 s0, m_16 c arg1 arg3 f0 f2 g1 g3 s0, m_15 c arg1 arg3 f0 f2 g1 g3 s0, m_14 c arg1 arg3 f0 f2 g1 g3 s0, m_13 c arg1 arg3 f0 f2 g1 g3 s0, m_12 c arg1 arg3 f0 f2 g1 g3 s0, m_11 c arg1 arg3 f0 f2 g1 g3 s0, m_10 c arg1 arg3 f0 f2 g1 g3 s0, m_9 c arg1 arg3 f0 f2 g1 g3 s0, m_8 c arg1 arg3 f0 f2 g1 g3 s0, m_7 c arg1 arg3 f0 f2 g1 g3 s0, m_6 c arg1 arg3 f0 f2 g1 g3 s0, m_5 c arg1 arg3 f0 f2 g1 g3 s0, m_4 c arg1 arg3 f0 f2 g1 g3 s0, m_3 c arg1 arg3 f0 f2 g1 g3 s0, m_2 c arg1 arg3 f0 f2 g1 g3 s0, m_1 c arg1 arg3 f0 f2 g1 g3 s0, m_0 c arg1 arg3 f0 f2 g1 g3 s0]
  rfl
/-- The output's scale. -/
theorem yscale_eq : run0.sl.v1467 c arg1 arg3 f0 f2 g1 g3 s0 = yScale (xH.view.read (Elt F) f0) (arg1.view.read (Elt F) g1) (wH.view.read (Elt F) f2) (arg3.view.read (Elt F) g3) := by
  unfold yScale
  rw [← ymax_eq c arg1 arg3 f0 f2 g1 g3 s0]
  rfl
/-- Its inverse. -/
theorem yinv_eq : run0.sl.v1472 c arg1 arg3 f0 f2 g1 g3 s0 = yInv (xH.view.read (Elt F) f0) (arg1.view.read (Elt F) g1) (wH.view.read (Elt F) f2) (arg3.view.read (Elt F) g3) := by
  unfold yInv
  rw [← ymax_eq c arg1 arg3 f0 f2 g1 g3 s0]
  rfl

/-! ## The output's codes -/

/-- The products stored, the last chunk first. -/
def yPieces (x : Vec F S256x2560 .bf16) (g : Vec F S1x2560 .f32) (w : Vec F S2560x9728 .fp8e4m3) (ws : Vec F S1x9728 .f32) : List (View.Piece (Elt F) S256x9728 .f32) :=
  [⟨rY 9216 (by decide), yC x g w ws 9216 (by decide)⟩, ⟨rY 8704 (by decide), yC x g w ws 8704 (by decide)⟩, ⟨rY 8192 (by decide), yC x g w ws 8192 (by decide)⟩, ⟨rY 7680 (by decide), yC x g w ws 7680 (by decide)⟩, ⟨rY 7168 (by decide), yC x g w ws 7168 (by decide)⟩, ⟨rY 6656 (by decide), yC x g w ws 6656 (by decide)⟩, ⟨rY 6144 (by decide), yC x g w ws 6144 (by decide)⟩, ⟨rY 5632 (by decide), yC x g w ws 5632 (by decide)⟩, ⟨rY 5120 (by decide), yC x g w ws 5120 (by decide)⟩, ⟨rY 4608 (by decide), yC x g w ws 4608 (by decide)⟩, ⟨rY 4096 (by decide), yC x g w ws 4096 (by decide)⟩, ⟨rY 3584 (by decide), yC x g w ws 3584 (by decide)⟩, ⟨rY 3072 (by decide), yC x g w ws 3072 (by decide)⟩, ⟨rY 2560 (by decide), yC x g w ws 2560 (by decide)⟩, ⟨rY 2048 (by decide), yC x g w ws 2048 (by decide)⟩, ⟨rY 1536 (by decide), yC x g w ws 1536 (by decide)⟩, ⟨rY 1024 (by decide), yC x g w ws 1024 (by decide)⟩, ⟨rY 512 (by decide), yC x g w ws 512 (by decide)⟩, ⟨rY 0 (by decide), yC x g w ws 0 (by decide)⟩]
theorem yL_eq : run0.sl.HS4_19 c arg1 arg3 f0 f2 g1 g3 s0 = yPieces (xH.view.read (Elt F) f0) (arg1.view.read (Elt F) g1) (wH.view.read (Elt F) f2) (arg3.view.read (Elt F) g3) := by
  unfold run0.sl.HS4_19 run0.sl.HS4_18 run0.sl.HS4_16 run0.sl.HS4_15 run0.sl.HS4_13 run0.sl.HS4_11 run0.sl.HS4_10 run0.sl.HS4_8 run0.sl.HS4_6 run0.sl.HS4_5 run0.sl.HS4_3 run0.sl.HS4_2
  rw [yS_0 c arg1 arg3 f0 f2 g1 g3 s0, yS_1 c arg1 arg3 f0 f2 g1 g3 s0, yS_2 c arg1 arg3 f0 f2 g1 g3 s0, yS_3 c arg1 arg3 f0 f2 g1 g3 s0, yS_4 c arg1 arg3 f0 f2 g1 g3 s0, yS_5 c arg1 arg3 f0 f2 g1 g3 s0, yS_6 c arg1 arg3 f0 f2 g1 g3 s0, yS_7 c arg1 arg3 f0 f2 g1 g3 s0, yS_8 c arg1 arg3 f0 f2 g1 g3 s0, yS_9 c arg1 arg3 f0 f2 g1 g3 s0, yS_10 c arg1 arg3 f0 f2 g1 g3 s0, yS_11 c arg1 arg3 f0 f2 g1 g3 s0, yS_12 c arg1 arg3 f0 f2 g1 g3 s0, yS_13 c arg1 arg3 f0 f2 g1 g3 s0, yS_14 c arg1 arg3 f0 f2 g1 g3 s0, yS_15 c arg1 arg3 f0 f2 g1 g3 s0, yS_16 c arg1 arg3 f0 f2 g1 g3 s0, yS_17 c arg1 arg3 f0 f2 g1 g3 s0, yS_18 c arg1 arg3 f0 f2 g1 g3 s0]
  rfl
/-- The last piece stored, read back through its rectangle. -/
theorem read_head {s : Shape} {e : EltTy} {sp : Space} {c : Dev nD} (M : Memref sig .tc sp s e) (f : HB F c M) (r : Rect s) (hr : ∀ a, r.stride a = 1)
    (v : r.shape.Idx → Elt F e) (L : List (View.Piece (Elt F) s e)) :
    (M.slice r hr).view.read (Elt F) (M.view.writes (Elt F) f (⟨r, v⟩ :: L)) = v :=
  View.read_write_univ (v := M.view.slice r) (Val := Elt F) _ _

theorem yb_0 : run0.sl.v1471 c arg1 arg3 f0 f2 g1 g3 s0 = yC (xH.view.read (Elt F) f0) (arg1.view.read (Elt F) g1) (wH.view.read (Elt F) f2) (arg3.view.read (Elt F) g3) 0 (by decide) := by
  unfold run0.sl.v1471
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_0 : run0.sl.v1482 c arg1 arg3 f0 f2 g1 g3 s0 = ycOf (yC (xH.view.read (Elt F) f0) (arg1.view.read (Elt F) g1) (wH.view.read (Elt F) f2) (arg3.view.read (Elt F) g3) 0 (by decide)) (yInv (xH.view.read (Elt F) f0) (arg1.view.read (Elt F) g1) (wH.view.read (Elt F) f2) (arg3.view.read (Elt F) g3)) := by
  refine (shapeCast_self _ _).trans ?_
  rw [← yb_0 c arg1 arg3 f0 f2 g1 g3 s0, ← yinv_eq c arg1 arg3 f0 f2 g1 g3 s0]
  rfl
theorem d_0 (s5 : HB F c ycM) : run0.sl.dma181 c arg1 arg3 f0 f2 g1 g3 s0 s5 = ycOf (yC (xH.view.read (Elt F) f0) (arg1.view.read (Elt F) g1) (wH.view.read (Elt F) f2) (arg3.view.read (Elt F) g3) 0 (by decide)) (yInv (xH.view.read (Elt F) f0) (arg1.view.read (Elt F) g1) (wH.view.read (Elt F) f2) (arg3.view.read (Elt F) g3)) := by
  unfold run0.sl.dma181 run0.sl.HS5_1
  exact (read_head ycM s5 _ _ _ _).trans (yc_0 c arg1 arg3 f0 f2 g1 g3 s0)

theorem yb_1 : run0.sl.v1485 c arg1 arg3 f0 f2 g1 g3 s0 = yC (xH.view.read (Elt F) f0) (arg1.view.read (Elt F) g1) (wH.view.read (Elt F) f2) (arg3.view.read (Elt F) g3) 512 (by decide) := by
  unfold run0.sl.v1485
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_1 : run0.sl.v1496 c arg1 arg3 f0 f2 g1 g3 s0 = ycOf (yC (xH.view.read (Elt F) f0) (arg1.view.read (Elt F) g1) (wH.view.read (Elt F) f2) (arg3.view.read (Elt F) g3) 512 (by decide)) (yInv (xH.view.read (Elt F) f0) (arg1.view.read (Elt F) g1) (wH.view.read (Elt F) f2) (arg3.view.read (Elt F) g3)) := by
  refine (shapeCast_self _ _).trans ?_
  rw [← yb_1 c arg1 arg3 f0 f2 g1 g3 s0, ← yinv_eq c arg1 arg3 f0 f2 g1 g3 s0]
  rfl
theorem d_1 (s5 : HB F c ycM) : run0.sl.dma185 c arg1 arg3 f0 f2 g1 g3 s0 s5 = ycOf (yC (xH.view.read (Elt F) f0) (arg1.view.read (Elt F) g1) (wH.view.read (Elt F) f2) (arg3.view.read (Elt F) g3) 512 (by decide)) (yInv (xH.view.read (Elt F) f0) (arg1.view.read (Elt F) g1) (wH.view.read (Elt F) f2) (arg3.view.read (Elt F) g3)) := by
  unfold run0.sl.dma185 run0.sl.HS5_2
  exact (read_head ycM s5 _ _ _ _).trans (yc_1 c arg1 arg3 f0 f2 g1 g3 s0)

theorem yb_2 : run0.sl.v1499 c arg1 arg3 f0 f2 g1 g3 s0 = yC (xH.view.read (Elt F) f0) (arg1.view.read (Elt F) g1) (wH.view.read (Elt F) f2) (arg3.view.read (Elt F) g3) 1024 (by decide) := by
  unfold run0.sl.v1499
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_2 : run0.sl.v1510 c arg1 arg3 f0 f2 g1 g3 s0 = ycOf (yC (xH.view.read (Elt F) f0) (arg1.view.read (Elt F) g1) (wH.view.read (Elt F) f2) (arg3.view.read (Elt F) g3) 1024 (by decide)) (yInv (xH.view.read (Elt F) f0) (arg1.view.read (Elt F) g1) (wH.view.read (Elt F) f2) (arg3.view.read (Elt F) g3)) := by
  refine (shapeCast_self _ _).trans ?_
  rw [← yb_2 c arg1 arg3 f0 f2 g1 g3 s0, ← yinv_eq c arg1 arg3 f0 f2 g1 g3 s0]
  rfl
theorem d_2 (s5 : HB F c ycM) : run0.sl.dma189 c arg1 arg3 f0 f2 g1 g3 s0 s5 = ycOf (yC (xH.view.read (Elt F) f0) (arg1.view.read (Elt F) g1) (wH.view.read (Elt F) f2) (arg3.view.read (Elt F) g3) 1024 (by decide)) (yInv (xH.view.read (Elt F) f0) (arg1.view.read (Elt F) g1) (wH.view.read (Elt F) f2) (arg3.view.read (Elt F) g3)) := by
  unfold run0.sl.dma189 run0.sl.HS5_3
  exact (read_head ycM s5 _ _ _ _).trans (yc_2 c arg1 arg3 f0 f2 g1 g3 s0)

theorem yb_3 : run0.sl.v1513 c arg1 arg3 f0 f2 g1 g3 s0 = yC (xH.view.read (Elt F) f0) (arg1.view.read (Elt F) g1) (wH.view.read (Elt F) f2) (arg3.view.read (Elt F) g3) 1536 (by decide) := by
  unfold run0.sl.v1513
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_3 : run0.sl.v1524 c arg1 arg3 f0 f2 g1 g3 s0 = ycOf (yC (xH.view.read (Elt F) f0) (arg1.view.read (Elt F) g1) (wH.view.read (Elt F) f2) (arg3.view.read (Elt F) g3) 1536 (by decide)) (yInv (xH.view.read (Elt F) f0) (arg1.view.read (Elt F) g1) (wH.view.read (Elt F) f2) (arg3.view.read (Elt F) g3)) := by
  refine (shapeCast_self _ _).trans ?_
  rw [← yb_3 c arg1 arg3 f0 f2 g1 g3 s0, ← yinv_eq c arg1 arg3 f0 f2 g1 g3 s0]
  rfl
theorem d_3 (s5 : HB F c ycM) : run0.sl.dma193 c arg1 arg3 f0 f2 g1 g3 s0 s5 = ycOf (yC (xH.view.read (Elt F) f0) (arg1.view.read (Elt F) g1) (wH.view.read (Elt F) f2) (arg3.view.read (Elt F) g3) 1536 (by decide)) (yInv (xH.view.read (Elt F) f0) (arg1.view.read (Elt F) g1) (wH.view.read (Elt F) f2) (arg3.view.read (Elt F) g3)) := by
  unfold run0.sl.dma193 run0.sl.HS5_4
  exact (read_head ycM s5 _ _ _ _).trans (yc_3 c arg1 arg3 f0 f2 g1 g3 s0)

theorem yb_4 : run0.sl.v1527 c arg1 arg3 f0 f2 g1 g3 s0 = yC (xH.view.read (Elt F) f0) (arg1.view.read (Elt F) g1) (wH.view.read (Elt F) f2) (arg3.view.read (Elt F) g3) 2048 (by decide) := by
  unfold run0.sl.v1527
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_4 : run0.sl.v1538 c arg1 arg3 f0 f2 g1 g3 s0 = ycOf (yC (xH.view.read (Elt F) f0) (arg1.view.read (Elt F) g1) (wH.view.read (Elt F) f2) (arg3.view.read (Elt F) g3) 2048 (by decide)) (yInv (xH.view.read (Elt F) f0) (arg1.view.read (Elt F) g1) (wH.view.read (Elt F) f2) (arg3.view.read (Elt F) g3)) := by
  refine (shapeCast_self _ _).trans ?_
  rw [← yb_4 c arg1 arg3 f0 f2 g1 g3 s0, ← yinv_eq c arg1 arg3 f0 f2 g1 g3 s0]
  rfl
theorem d_4 (s5 : HB F c ycM) : run0.sl.dma197 c arg1 arg3 f0 f2 g1 g3 s0 s5 = ycOf (yC (xH.view.read (Elt F) f0) (arg1.view.read (Elt F) g1) (wH.view.read (Elt F) f2) (arg3.view.read (Elt F) g3) 2048 (by decide)) (yInv (xH.view.read (Elt F) f0) (arg1.view.read (Elt F) g1) (wH.view.read (Elt F) f2) (arg3.view.read (Elt F) g3)) := by
  unfold run0.sl.dma197 run0.sl.HS5_5
  exact (read_head ycM s5 _ _ _ _).trans (yc_4 c arg1 arg3 f0 f2 g1 g3 s0)

theorem yb_5 : run0.sl.v1541 c arg1 arg3 f0 f2 g1 g3 s0 = yC (xH.view.read (Elt F) f0) (arg1.view.read (Elt F) g1) (wH.view.read (Elt F) f2) (arg3.view.read (Elt F) g3) 2560 (by decide) := by
  unfold run0.sl.v1541
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_5 : run0.sl.v1552 c arg1 arg3 f0 f2 g1 g3 s0 = ycOf (yC (xH.view.read (Elt F) f0) (arg1.view.read (Elt F) g1) (wH.view.read (Elt F) f2) (arg3.view.read (Elt F) g3) 2560 (by decide)) (yInv (xH.view.read (Elt F) f0) (arg1.view.read (Elt F) g1) (wH.view.read (Elt F) f2) (arg3.view.read (Elt F) g3)) := by
  refine (shapeCast_self _ _).trans ?_
  rw [← yb_5 c arg1 arg3 f0 f2 g1 g3 s0, ← yinv_eq c arg1 arg3 f0 f2 g1 g3 s0]
  rfl
theorem d_5 (s5 : HB F c ycM) : run0.sl.dma201 c arg1 arg3 f0 f2 g1 g3 s0 s5 = ycOf (yC (xH.view.read (Elt F) f0) (arg1.view.read (Elt F) g1) (wH.view.read (Elt F) f2) (arg3.view.read (Elt F) g3) 2560 (by decide)) (yInv (xH.view.read (Elt F) f0) (arg1.view.read (Elt F) g1) (wH.view.read (Elt F) f2) (arg3.view.read (Elt F) g3)) := by
  unfold run0.sl.dma201 run0.sl.HS5_6
  exact (read_head ycM s5 _ _ _ _).trans (yc_5 c arg1 arg3 f0 f2 g1 g3 s0)

theorem yb_6 : run0.sl.v1555 c arg1 arg3 f0 f2 g1 g3 s0 = yC (xH.view.read (Elt F) f0) (arg1.view.read (Elt F) g1) (wH.view.read (Elt F) f2) (arg3.view.read (Elt F) g3) 3072 (by decide) := by
  unfold run0.sl.v1555
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_6 : run0.sl.v1566 c arg1 arg3 f0 f2 g1 g3 s0 = ycOf (yC (xH.view.read (Elt F) f0) (arg1.view.read (Elt F) g1) (wH.view.read (Elt F) f2) (arg3.view.read (Elt F) g3) 3072 (by decide)) (yInv (xH.view.read (Elt F) f0) (arg1.view.read (Elt F) g1) (wH.view.read (Elt F) f2) (arg3.view.read (Elt F) g3)) := by
  refine (shapeCast_self _ _).trans ?_
  rw [← yb_6 c arg1 arg3 f0 f2 g1 g3 s0, ← yinv_eq c arg1 arg3 f0 f2 g1 g3 s0]
  rfl
theorem d_6 (s5 : HB F c ycM) : run0.sl.dma205 c arg1 arg3 f0 f2 g1 g3 s0 s5 = ycOf (yC (xH.view.read (Elt F) f0) (arg1.view.read (Elt F) g1) (wH.view.read (Elt F) f2) (arg3.view.read (Elt F) g3) 3072 (by decide)) (yInv (xH.view.read (Elt F) f0) (arg1.view.read (Elt F) g1) (wH.view.read (Elt F) f2) (arg3.view.read (Elt F) g3)) := by
  unfold run0.sl.dma205 run0.sl.HS5_7
  exact (read_head ycM s5 _ _ _ _).trans (yc_6 c arg1 arg3 f0 f2 g1 g3 s0)

theorem yb_7 : run0.sl.v1569 c arg1 arg3 f0 f2 g1 g3 s0 = yC (xH.view.read (Elt F) f0) (arg1.view.read (Elt F) g1) (wH.view.read (Elt F) f2) (arg3.view.read (Elt F) g3) 3584 (by decide) := by
  unfold run0.sl.v1569
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_7 : run0.sl.v1580 c arg1 arg3 f0 f2 g1 g3 s0 = ycOf (yC (xH.view.read (Elt F) f0) (arg1.view.read (Elt F) g1) (wH.view.read (Elt F) f2) (arg3.view.read (Elt F) g3) 3584 (by decide)) (yInv (xH.view.read (Elt F) f0) (arg1.view.read (Elt F) g1) (wH.view.read (Elt F) f2) (arg3.view.read (Elt F) g3)) := by
  refine (shapeCast_self _ _).trans ?_
  rw [← yb_7 c arg1 arg3 f0 f2 g1 g3 s0, ← yinv_eq c arg1 arg3 f0 f2 g1 g3 s0]
  rfl
theorem d_7 (s5 : HB F c ycM) : run0.sl.dma209 c arg1 arg3 f0 f2 g1 g3 s0 s5 = ycOf (yC (xH.view.read (Elt F) f0) (arg1.view.read (Elt F) g1) (wH.view.read (Elt F) f2) (arg3.view.read (Elt F) g3) 3584 (by decide)) (yInv (xH.view.read (Elt F) f0) (arg1.view.read (Elt F) g1) (wH.view.read (Elt F) f2) (arg3.view.read (Elt F) g3)) := by
  unfold run0.sl.dma209 run0.sl.HS5_8
  exact (read_head ycM s5 _ _ _ _).trans (yc_7 c arg1 arg3 f0 f2 g1 g3 s0)

theorem yb_8 : run0.sl.v1583 c arg1 arg3 f0 f2 g1 g3 s0 = yC (xH.view.read (Elt F) f0) (arg1.view.read (Elt F) g1) (wH.view.read (Elt F) f2) (arg3.view.read (Elt F) g3) 4096 (by decide) := by
  unfold run0.sl.v1583
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_8 : run0.sl.v1594 c arg1 arg3 f0 f2 g1 g3 s0 = ycOf (yC (xH.view.read (Elt F) f0) (arg1.view.read (Elt F) g1) (wH.view.read (Elt F) f2) (arg3.view.read (Elt F) g3) 4096 (by decide)) (yInv (xH.view.read (Elt F) f0) (arg1.view.read (Elt F) g1) (wH.view.read (Elt F) f2) (arg3.view.read (Elt F) g3)) := by
  refine (shapeCast_self _ _).trans ?_
  rw [← yb_8 c arg1 arg3 f0 f2 g1 g3 s0, ← yinv_eq c arg1 arg3 f0 f2 g1 g3 s0]
  rfl
theorem d_8 (s5 : HB F c ycM) : run0.sl.dma213 c arg1 arg3 f0 f2 g1 g3 s0 s5 = ycOf (yC (xH.view.read (Elt F) f0) (arg1.view.read (Elt F) g1) (wH.view.read (Elt F) f2) (arg3.view.read (Elt F) g3) 4096 (by decide)) (yInv (xH.view.read (Elt F) f0) (arg1.view.read (Elt F) g1) (wH.view.read (Elt F) f2) (arg3.view.read (Elt F) g3)) := by
  unfold run0.sl.dma213 run0.sl.HS5_9
  exact (read_head ycM s5 _ _ _ _).trans (yc_8 c arg1 arg3 f0 f2 g1 g3 s0)

theorem yb_9 : run0.sl.v1597 c arg1 arg3 f0 f2 g1 g3 s0 = yC (xH.view.read (Elt F) f0) (arg1.view.read (Elt F) g1) (wH.view.read (Elt F) f2) (arg3.view.read (Elt F) g3) 4608 (by decide) := by
  unfold run0.sl.v1597
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_9 : run0.sl.v1608 c arg1 arg3 f0 f2 g1 g3 s0 = ycOf (yC (xH.view.read (Elt F) f0) (arg1.view.read (Elt F) g1) (wH.view.read (Elt F) f2) (arg3.view.read (Elt F) g3) 4608 (by decide)) (yInv (xH.view.read (Elt F) f0) (arg1.view.read (Elt F) g1) (wH.view.read (Elt F) f2) (arg3.view.read (Elt F) g3)) := by
  refine (shapeCast_self _ _).trans ?_
  rw [← yb_9 c arg1 arg3 f0 f2 g1 g3 s0, ← yinv_eq c arg1 arg3 f0 f2 g1 g3 s0]
  rfl
theorem d_9 (s5 : HB F c ycM) : run0.sl.dma217 c arg1 arg3 f0 f2 g1 g3 s0 s5 = ycOf (yC (xH.view.read (Elt F) f0) (arg1.view.read (Elt F) g1) (wH.view.read (Elt F) f2) (arg3.view.read (Elt F) g3) 4608 (by decide)) (yInv (xH.view.read (Elt F) f0) (arg1.view.read (Elt F) g1) (wH.view.read (Elt F) f2) (arg3.view.read (Elt F) g3)) := by
  unfold run0.sl.dma217 run0.sl.HS5_10
  exact (read_head ycM s5 _ _ _ _).trans (yc_9 c arg1 arg3 f0 f2 g1 g3 s0)

theorem yb_10 : run0.sl.v1611 c arg1 arg3 f0 f2 g1 g3 s0 = yC (xH.view.read (Elt F) f0) (arg1.view.read (Elt F) g1) (wH.view.read (Elt F) f2) (arg3.view.read (Elt F) g3) 5120 (by decide) := by
  unfold run0.sl.v1611
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_10 : run0.sl.v1622 c arg1 arg3 f0 f2 g1 g3 s0 = ycOf (yC (xH.view.read (Elt F) f0) (arg1.view.read (Elt F) g1) (wH.view.read (Elt F) f2) (arg3.view.read (Elt F) g3) 5120 (by decide)) (yInv (xH.view.read (Elt F) f0) (arg1.view.read (Elt F) g1) (wH.view.read (Elt F) f2) (arg3.view.read (Elt F) g3)) := by
  refine (shapeCast_self _ _).trans ?_
  rw [← yb_10 c arg1 arg3 f0 f2 g1 g3 s0, ← yinv_eq c arg1 arg3 f0 f2 g1 g3 s0]
  rfl
theorem d_10 (s5 : HB F c ycM) : run0.sl.dma221 c arg1 arg3 f0 f2 g1 g3 s0 s5 = ycOf (yC (xH.view.read (Elt F) f0) (arg1.view.read (Elt F) g1) (wH.view.read (Elt F) f2) (arg3.view.read (Elt F) g3) 5120 (by decide)) (yInv (xH.view.read (Elt F) f0) (arg1.view.read (Elt F) g1) (wH.view.read (Elt F) f2) (arg3.view.read (Elt F) g3)) := by
  unfold run0.sl.dma221 run0.sl.HS5_11
  exact (read_head ycM s5 _ _ _ _).trans (yc_10 c arg1 arg3 f0 f2 g1 g3 s0)

theorem yb_11 : run0.sl.v1625 c arg1 arg3 f0 f2 g1 g3 s0 = yC (xH.view.read (Elt F) f0) (arg1.view.read (Elt F) g1) (wH.view.read (Elt F) f2) (arg3.view.read (Elt F) g3) 5632 (by decide) := by
  unfold run0.sl.v1625
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_11 : run0.sl.v1636 c arg1 arg3 f0 f2 g1 g3 s0 = ycOf (yC (xH.view.read (Elt F) f0) (arg1.view.read (Elt F) g1) (wH.view.read (Elt F) f2) (arg3.view.read (Elt F) g3) 5632 (by decide)) (yInv (xH.view.read (Elt F) f0) (arg1.view.read (Elt F) g1) (wH.view.read (Elt F) f2) (arg3.view.read (Elt F) g3)) := by
  refine (shapeCast_self _ _).trans ?_
  rw [← yb_11 c arg1 arg3 f0 f2 g1 g3 s0, ← yinv_eq c arg1 arg3 f0 f2 g1 g3 s0]
  rfl
theorem d_11 (s5 : HB F c ycM) : run0.sl.dma225 c arg1 arg3 f0 f2 g1 g3 s0 s5 = ycOf (yC (xH.view.read (Elt F) f0) (arg1.view.read (Elt F) g1) (wH.view.read (Elt F) f2) (arg3.view.read (Elt F) g3) 5632 (by decide)) (yInv (xH.view.read (Elt F) f0) (arg1.view.read (Elt F) g1) (wH.view.read (Elt F) f2) (arg3.view.read (Elt F) g3)) := by
  unfold run0.sl.dma225 run0.sl.HS5_12
  exact (read_head ycM s5 _ _ _ _).trans (yc_11 c arg1 arg3 f0 f2 g1 g3 s0)

theorem yb_12 : run0.sl.v1639 c arg1 arg3 f0 f2 g1 g3 s0 = yC (xH.view.read (Elt F) f0) (arg1.view.read (Elt F) g1) (wH.view.read (Elt F) f2) (arg3.view.read (Elt F) g3) 6144 (by decide) := by
  unfold run0.sl.v1639
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_12 : run0.sl.v1650 c arg1 arg3 f0 f2 g1 g3 s0 = ycOf (yC (xH.view.read (Elt F) f0) (arg1.view.read (Elt F) g1) (wH.view.read (Elt F) f2) (arg3.view.read (Elt F) g3) 6144 (by decide)) (yInv (xH.view.read (Elt F) f0) (arg1.view.read (Elt F) g1) (wH.view.read (Elt F) f2) (arg3.view.read (Elt F) g3)) := by
  refine (shapeCast_self _ _).trans ?_
  rw [← yb_12 c arg1 arg3 f0 f2 g1 g3 s0, ← yinv_eq c arg1 arg3 f0 f2 g1 g3 s0]
  rfl
theorem d_12 (s5 : HB F c ycM) : run0.sl.dma229 c arg1 arg3 f0 f2 g1 g3 s0 s5 = ycOf (yC (xH.view.read (Elt F) f0) (arg1.view.read (Elt F) g1) (wH.view.read (Elt F) f2) (arg3.view.read (Elt F) g3) 6144 (by decide)) (yInv (xH.view.read (Elt F) f0) (arg1.view.read (Elt F) g1) (wH.view.read (Elt F) f2) (arg3.view.read (Elt F) g3)) := by
  unfold run0.sl.dma229 run0.sl.HS5_13
  exact (read_head ycM s5 _ _ _ _).trans (yc_12 c arg1 arg3 f0 f2 g1 g3 s0)

theorem yb_13 : run0.sl.v1653 c arg1 arg3 f0 f2 g1 g3 s0 = yC (xH.view.read (Elt F) f0) (arg1.view.read (Elt F) g1) (wH.view.read (Elt F) f2) (arg3.view.read (Elt F) g3) 6656 (by decide) := by
  unfold run0.sl.v1653
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
theorem yc_13 : run0.sl.v1664 c arg1 arg3 f0 f2 g1 g3 s0 = ycOf (yC (xH.view.read (Elt F) f0) (arg1.view.read (Elt F) g1) (wH.view.read (Elt F) f2) (arg3.view.read (Elt F) g3) 6656 (by decide)) (yInv (xH.view.read (Elt F) f0) (arg1.view.read (Elt F) g1) (wH.view.read (Elt F) f2) (arg3.view.read (Elt F) g3)) := by
  refine (shapeCast_self _ _).trans ?_
  rw [← yb_13 c arg1 arg3 f0 f2 g1 g3 s0, ← yinv_eq c arg1 arg3 f0 f2 g1 g3 s0]
  rfl
theorem d_13 (s5 : HB F c ycM) : run0.sl.dma233 c arg1 arg3 f0 f2 g1 g3 s0 s5 = ycOf (yC (xH.view.read (Elt F) f0) (arg1.view.read (Elt F) g1) (wH.view.read (Elt F) f2) (arg3.view.read (Elt F) g3) 6656 (by decide)) (yInv (xH.view.read (Elt F) f0) (arg1.view.read (Elt F) g1) (wH.view.read (Elt F) f2) (arg3.view.read (Elt F) g3)) := by
  unfold run0.sl.dma233 run0.sl.HS5_14
  exact (read_head ycM s5 _ _ _ _).trans (yc_13 c arg1 arg3 f0 f2 g1 g3 s0)

theorem yb_14 : run0.sl.v1667 c arg1 arg3 f0 f2 g1 g3 s0 = yC (xH.view.read (Elt F) f0) (arg1.view.read (Elt F) g1) (wH.view.read (Elt F) f2) (arg3.view.read (Elt F) g3) 7168 (by decide) := by
  unfold run0.sl.v1667
  rw [yL_eq c arg1 arg3 f0 f2 g1 g3 s0]
  unfold yPieces
  rw [View.readCov_skip _ _ _ _ _ (by decide), View.readCov_skip _ _ _ _ _ (by decide), View.readCov_skip _ _ _ _ _ (by decide), View.readCov_skip _ _ _ _ _ (by decide), View.readCov_cons_toLoadRect]
theorem yc_14 : run0.sl.v1678 c arg1 arg3 f0 f2 g1 g3 s0 = ycOf (yC (xH.view.read (Elt F) f0) (arg1.view.read (Elt F) g1) (wH.view.read (Elt F) f2) (arg3.view.read (Elt F) g3) 7168 (by decide)) (yInv (xH.view.read (Elt F) f0) (arg1.view.read (Elt F) g1) (wH.view.read (Elt F) f2) (arg3.view.read (Elt F) g3)) := by
  refine (shapeCast_self _ _).trans ?_
  rw [← yb_14 c arg1 arg3 f0 f2 g1 g3 s0, ← yinv_eq c arg1 arg3 f0 f2 g1 g3 s0]
  rfl
theorem d_14 (s5 : HB F c ycM) : run0.sl.dma237 c arg1 arg3 f0 f2 g1 g3 s0 s5 = ycOf (yC (xH.view.read (Elt F) f0) (arg1.view.read (Elt F) g1) (wH.view.read (Elt F) f2) (arg3.view.read (Elt F) g3) 7168 (by decide)) (yInv (xH.view.read (Elt F) f0) (arg1.view.read (Elt F) g1) (wH.view.read (Elt F) f2) (arg3.view.read (Elt F) g3)) := by
  unfold run0.sl.dma237 run0.sl.HS5_15
  exact (read_head ycM s5 _ _ _ _).trans (yc_14 c arg1 arg3 f0 f2 g1 g3 s0)

theorem yb_15 : run0.sl.v1681 c arg1 arg3 f0 f2 g1 g3 s0 = yC (xH.view.read (Elt F) f0) (arg1.view.read (Elt F) g1) (wH.view.read (Elt F) f2) (arg3.view.read (Elt F) g3) 7680 (by decide) := by
  unfold run0.sl.v1681
  rw [yL_eq c arg1 arg3 f0 f2 g1 g3 s0]
  unfold yPieces
  rw [View.readCov_skip _ _ _ _ _ (by decide), View.readCov_skip _ _ _ _ _ (by decide), View.readCov_skip _ _ _ _ _ (by decide), View.readCov_cons_toLoadRect]
theorem yc_15 : run0.sl.v1692 c arg1 arg3 f0 f2 g1 g3 s0 = ycOf (yC (xH.view.read (Elt F) f0) (arg1.view.read (Elt F) g1) (wH.view.read (Elt F) f2) (arg3.view.read (Elt F) g3) 7680 (by decide)) (yInv (xH.view.read (Elt F) f0) (arg1.view.read (Elt F) g1) (wH.view.read (Elt F) f2) (arg3.view.read (Elt F) g3)) := by
  refine (shapeCast_self _ _).trans ?_
  rw [← yb_15 c arg1 arg3 f0 f2 g1 g3 s0, ← yinv_eq c arg1 arg3 f0 f2 g1 g3 s0]
  rfl
theorem d_15 (s5 : HB F c ycM) : run0.sl.dma241 c arg1 arg3 f0 f2 g1 g3 s0 s5 = ycOf (yC (xH.view.read (Elt F) f0) (arg1.view.read (Elt F) g1) (wH.view.read (Elt F) f2) (arg3.view.read (Elt F) g3) 7680 (by decide)) (yInv (xH.view.read (Elt F) f0) (arg1.view.read (Elt F) g1) (wH.view.read (Elt F) f2) (arg3.view.read (Elt F) g3)) := by
  unfold run0.sl.dma241 run0.sl.HS5_16
  exact (read_head ycM s5 _ _ _ _).trans (yc_15 c arg1 arg3 f0 f2 g1 g3 s0)

theorem yb_16 : run0.sl.v1695 c arg1 arg3 f0 f2 g1 g3 s0 = yC (xH.view.read (Elt F) f0) (arg1.view.read (Elt F) g1) (wH.view.read (Elt F) f2) (arg3.view.read (Elt F) g3) 8192 (by decide) := by
  unfold run0.sl.v1695
  rw [yL_eq c arg1 arg3 f0 f2 g1 g3 s0]
  unfold yPieces
  rw [View.readCov_skip _ _ _ _ _ (by decide), View.readCov_skip _ _ _ _ _ (by decide), View.readCov_cons_toLoadRect]
theorem yc_16 : run0.sl.v1706 c arg1 arg3 f0 f2 g1 g3 s0 = ycOf (yC (xH.view.read (Elt F) f0) (arg1.view.read (Elt F) g1) (wH.view.read (Elt F) f2) (arg3.view.read (Elt F) g3) 8192 (by decide)) (yInv (xH.view.read (Elt F) f0) (arg1.view.read (Elt F) g1) (wH.view.read (Elt F) f2) (arg3.view.read (Elt F) g3)) := by
  refine (shapeCast_self _ _).trans ?_
  rw [← yb_16 c arg1 arg3 f0 f2 g1 g3 s0, ← yinv_eq c arg1 arg3 f0 f2 g1 g3 s0]
  rfl
theorem d_16 (s5 : HB F c ycM) : run0.sl.dma245 c arg1 arg3 f0 f2 g1 g3 s0 s5 = ycOf (yC (xH.view.read (Elt F) f0) (arg1.view.read (Elt F) g1) (wH.view.read (Elt F) f2) (arg3.view.read (Elt F) g3) 8192 (by decide)) (yInv (xH.view.read (Elt F) f0) (arg1.view.read (Elt F) g1) (wH.view.read (Elt F) f2) (arg3.view.read (Elt F) g3)) := by
  unfold run0.sl.dma245 run0.sl.HS5_17
  exact (read_head ycM s5 _ _ _ _).trans (yc_16 c arg1 arg3 f0 f2 g1 g3 s0)

theorem yb_17 : run0.sl.v1709 c arg1 arg3 f0 f2 g1 g3 s0 = yC (xH.view.read (Elt F) f0) (arg1.view.read (Elt F) g1) (wH.view.read (Elt F) f2) (arg3.view.read (Elt F) g3) 8704 (by decide) := by
  unfold run0.sl.v1709
  rw [yL_eq c arg1 arg3 f0 f2 g1 g3 s0]
  unfold yPieces
  rw [View.readCov_skip _ _ _ _ _ (by decide), View.readCov_cons_toLoadRect]
theorem yc_17 : run0.sl.v1720 c arg1 arg3 f0 f2 g1 g3 s0 = ycOf (yC (xH.view.read (Elt F) f0) (arg1.view.read (Elt F) g1) (wH.view.read (Elt F) f2) (arg3.view.read (Elt F) g3) 8704 (by decide)) (yInv (xH.view.read (Elt F) f0) (arg1.view.read (Elt F) g1) (wH.view.read (Elt F) f2) (arg3.view.read (Elt F) g3)) := by
  refine (shapeCast_self _ _).trans ?_
  rw [← yb_17 c arg1 arg3 f0 f2 g1 g3 s0, ← yinv_eq c arg1 arg3 f0 f2 g1 g3 s0]
  rfl
theorem d_17 (s5 : HB F c ycM) : run0.sl.dma249 c arg1 arg3 f0 f2 g1 g3 s0 s5 = ycOf (yC (xH.view.read (Elt F) f0) (arg1.view.read (Elt F) g1) (wH.view.read (Elt F) f2) (arg3.view.read (Elt F) g3) 8704 (by decide)) (yInv (xH.view.read (Elt F) f0) (arg1.view.read (Elt F) g1) (wH.view.read (Elt F) f2) (arg3.view.read (Elt F) g3)) := by
  unfold run0.sl.dma249 run0.sl.HS5_18
  exact (read_head ycM s5 _ _ _ _).trans (yc_17 c arg1 arg3 f0 f2 g1 g3 s0)

theorem yb_18 : run0.sl.v1723 c arg1 arg3 f0 f2 g1 g3 s0 = yC (xH.view.read (Elt F) f0) (arg1.view.read (Elt F) g1) (wH.view.read (Elt F) f2) (arg3.view.read (Elt F) g3) 9216 (by decide) := by
  unfold run0.sl.v1723
  rw [yL_eq c arg1 arg3 f0 f2 g1 g3 s0]
  unfold yPieces
  rw [View.readCov_cons_toLoadRect]
theorem yc_18 : run0.sl.v1734 c arg1 arg3 f0 f2 g1 g3 s0 = ycOf (yC (xH.view.read (Elt F) f0) (arg1.view.read (Elt F) g1) (wH.view.read (Elt F) f2) (arg3.view.read (Elt F) g3) 9216 (by decide)) (yInv (xH.view.read (Elt F) f0) (arg1.view.read (Elt F) g1) (wH.view.read (Elt F) f2) (arg3.view.read (Elt F) g3)) := by
  refine (shapeCast_self _ _).trans ?_
  rw [← yb_18 c arg1 arg3 f0 f2 g1 g3 s0, ← yinv_eq c arg1 arg3 f0 f2 g1 g3 s0]
  rfl
theorem d_18 (s5 : HB F c ycM) : run0.sl.dma253 c arg1 arg3 f0 f2 g1 g3 s0 s5 = ycOf (yC (xH.view.read (Elt F) f0) (arg1.view.read (Elt F) g1) (wH.view.read (Elt F) f2) (arg3.view.read (Elt F) g3) 9216 (by decide)) (yInv (xH.view.read (Elt F) f0) (arg1.view.read (Elt F) g1) (wH.view.read (Elt F) f2) (arg3.view.read (Elt F) g3)) := by
  unfold run0.sl.dma253 run0.sl.HS5_19
  exact (read_head ycM s5 _ _ _ _).trans (yc_18 c arg1 arg3 f0 f2 g1 g3 s0)

end Cert.KernelIdeal.Hand

end
-- ==== Proof.Frame.lean ====
module

public import proofs.«01_k».proof.Proof.Value
public import Idealize.ShloMosaic.Lib.Pipeline.FrameValue

/-! The launch: the proof data of the one region, its body obligation from the run, and what the whole program leaves. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A whole buffer read is its contents. -/
theorem readWhole (c : Dev nD) (b : Ref sig .tc) (f : Buf (Elt F) ((View.whole b).loc (c : Thread nD τ))) : View.read (Elt F) (View.whole b) f = f := rfl

/-! ## The run's results in the terms of the specification -/

section Values
variable (c : Dev nD) (arg1 : Memref sig .tc .vmem S1x2560 .f32) (harg1 : arg1.IsWhole)
    (arg3 : Memref sig .tc .vmem S1x9728 .f32) (harg3 : arg3.IsWhole)
    (arg5 : Memref sig .tc .vmem S1x1 .f32) (harg5 : arg5.IsWhole)
    (arg6 : Memref sig .tc .vmem S1x1 .f32) (harg6 : arg6.IsWhole)
    (arg8 : Memref sig .tc .vmem S1x256 .f32) (harg8 : arg8.IsWhole)
    (f0 : HB F c xH) (f2 : HB F c wH)
    (f4 : HB F c ycH) (f7 : HB F c xcH)
    (g1 : HB F c arg1) (g3 : HB F c arg3) (g5 : HB F c arg5) (g6 : HB F c arg6) (g8 : HB F c arg8)
    (s0 : HB F c xM) (s1 : HB F c hM) (s2 : HB F c xcM)
    (s3 : HB F c wM) (s4 : HB F c yM) (s5 : HB F c ycM)

/-- The run on the given operands and buffers. -/
abbrev theRun := run0 c arg1 harg1 arg3 harg3 arg5 harg5 arg6 harg6 arg8 harg8 f0 f2 f4 f7 g1 g3 g5 g6 g8 s0 s1 s2 s3 s4 s5

/-- The scale's window is left at the scale. -/
theorem out5 : arg5.view.read (Elt F) (arg5.view.writes (Elt F) g5 (theRun c arg1 harg1 arg3 harg3 arg5 harg5 arg6 harg6 arg8 harg8 f0 f2 f4 f7 g1 g3 g5 g6 g8 s0 s1 s2 s3 s4 s5).1.1)
    = yScale (xH.view.read (Elt F) f0) (arg1.view.read (Elt F) g1) (wH.view.read (Elt F) f2) (arg3.view.read (Elt F) g3) := by
  rw [← yscale_eq (c := c) (s0 := s0)]
  refine (View.read_writes_eq_canon _ _ _ (View.cover_of_tiledL _ S1x1.size (by sl_kernel_rfl))).trans ?_
  exact View.canon_cons_unit_lit _ _ _ (by decide)
/-- The largest magnitude's window is left at it. -/
theorem out6 : arg6.view.read (Elt F) (arg6.view.writes (Elt F) g6 (theRun c arg1 harg1 arg3 harg3 arg5 harg5 arg6 harg6 arg8 harg8 f0 f2 f4 f7 g1 g3 g5 g6 g8 s0 s1 s2 s3 s4 s5).1.2.1)
    = broadcast S1x1 (yMax (xH.view.read (Elt F) f0) (arg1.view.read (Elt F) g1) (wH.view.read (Elt F) f2) (arg3.view.read (Elt F) g3)) := by
  rw [← ymax_eq (c := c) (s0 := s0)]
  refine (View.read_writes_eq_canon _ _ _ (View.cover_of_tiledL _ S1x1.size (by sl_kernel_rfl))).trans ?_
  exact View.canon_cons_unit_lit _ _ _ (by decide)
/-- The rows' scales' window is left at them. -/
theorem out8 : arg8.view.read (Elt F) (arg8.view.writes (Elt F) g8 (theRun c arg1 harg1 arg3 harg3 arg5 harg5 arg6 harg6 arg8 harg8 f0 f2 f4 f7 g1 g3 g5 g6 g8 s0 s1 s2 s3 s4 s5).1.2.2.1)
    = sRow (xH.view.read (Elt F) f0) (arg1.view.read (Elt F) g1) := by
  rw [← xs_eq (c := c) (s0 := s0)]
  refine (View.read_writes_eq_canon _ _ _ (View.cover_of_tiledL _ S1x256.size (by sl_kernel_rfl))).trans ?_
  exact View.canon_cons_unit_lit _ _ _ (by decide)
/-- The output codes' array is written by column chunks, each at its codes. -/
theorem out4 : ycH.view.writes (Elt F) f4 (theRun c arg1 harg1 arg3 harg3 arg5 harg5 arg6 harg6 arg8 harg8 f0 f2 f4 f7 g1 g3 g5 g6 g8 s0 s1 s2 s3 s4 s5).1.2.2.2.1
    = ycArr (xH.view.read (Elt F) f0) (arg1.view.read (Elt F) g1) (wH.view.read (Elt F) f2) (arg3.view.read (Elt F) g3) := by
  have hL : (theRun c arg1 harg1 arg3 harg3 arg5 harg5 arg6 harg6 arg8 harg8 f0 f2 f4 f7 g1 g3 g5 g6 g8 s0 s1 s2 s3 s4 s5).1.2.2.2.1
      = ycPieces (xH.view.read (Elt F) f0) (arg1.view.read (Elt F) g1) (wH.view.read (Elt F) f2) (arg3.view.read (Elt F) g3) := by
    show ([⟨rY 9216 (by decide), run0.sl.dma253 c arg1 arg3 f0 f2 g1 g3 s0 s5⟩,
      ⟨rY 8704 (by decide), run0.sl.dma249 c arg1 arg3 f0 f2 g1 g3 s0 s5⟩,
      ⟨rY 8192 (by decide), run0.sl.dma245 c arg1 arg3 f0 f2 g1 g3 s0 s5⟩,
      ⟨rY 7680 (by decide), run0.sl.dma241 c arg1 arg3 f0 f2 g1 g3 s0 s5⟩,
      ⟨rY 7168 (by decide), run0.sl.dma237 c arg1 arg3 f0 f2 g1 g3 s0 s5⟩,
      ⟨rY 6656 (by decide), run0.sl.dma233 c arg1 arg3 f0 f2 g1 g3 s0 s5⟩,
      ⟨rY 6144 (by decide), run0.sl.dma229 c arg1 arg3 f0 f2 g1 g3 s0 s5⟩,
      ⟨rY 5632 (by decide), run0.sl.dma225 c arg1 arg3 f0 f2 g1 g3 s0 s5⟩,
      ⟨rY 5120 (by decide), run0.sl.dma221 c arg1 arg3 f0 f2 g1 g3 s0 s5⟩,
      ⟨rY 4608 (by decide), run0.sl.dma217 c arg1 arg3 f0 f2 g1 g3 s0 s5⟩,
      ⟨rY 4096 (by decide), run0.sl.dma213 c arg1 arg3 f0 f2 g1 g3 s0 s5⟩,
      ⟨rY 3584 (by decide), run0.sl.dma209 c arg1 arg3 f0 f2 g1 g3 s0 s5⟩,
      ⟨rY 3072 (by decide), run0.sl.dma205 c arg1 arg3 f0 f2 g1 g3 s0 s5⟩,
      ⟨rY 2560 (by decide), run0.sl.dma201 c arg1 arg3 f0 f2 g1 g3 s0 s5⟩,
      ⟨rY 2048 (by decide), run0.sl.dma197 c arg1 arg3 f0 f2 g1 g3 s0 s5⟩,
      ⟨rY 1536 (by decide), run0.sl.dma193 c arg1 arg3 f0 f2 g1 g3 s0 s5⟩,
      ⟨rY 1024 (by decide), run0.sl.dma189 c arg1 arg3 f0 f2 g1 g3 s0 s5⟩,
      ⟨rY 512 (by decide), run0.sl.dma185 c arg1 arg3 f0 f2 g1 g3 s0 s5⟩,
      ⟨rY 0 (by decide), run0.sl.dma181 c arg1 arg3 f0 f2 g1 g3 s0 s5⟩] : List (View.Piece (Elt F) S256x9728 .fp8e4m3)) = _
    rw [d_18, d_17, d_16, d_15, d_14, d_13, d_12, d_11, d_10, d_9, d_8, d_7, d_6, d_5, d_4, d_3, d_2, d_1, d_0]
    rfl
  rw [hL]
  exact (readWhole c main_v3_0 _).symm.trans <| View.read_writes_eq_canon ycH.view f4 _ (View.cover_of_tiledL (ycPieces (xH.view.read (Elt F) f0) (arg1.view.read (Elt F) g1) (wH.view.read (Elt F) f2) (arg3.view.read (Elt F) g3)) S256x512.size (by sl_kernel_rfl))
/-- The activation codes' array is written whole, at the codes. -/
theorem out7 : View.write (Elt F) xcH.view f7 (theRun c arg1 harg1 arg3 harg3 arg5 harg5 arg6 harg6 arg8 harg8 f0 f2 f4 f7 g1 g3 g5 g6 g8 s0 s1 s2 s3 s4 s5).1.2.2.2.2 Finset.univ
    = cArr (xH.view.read (Elt F) f0) (arg1.view.read (Elt F) g1) := by
  have h : (theRun c arg1 harg1 arg3 harg3 arg5 harg5 arg6 harg6 arg8 harg8 f0 f2 f4 f7 g1 g3 g5 g6 g8 s0 s1 s2 s3 s4 s5).1.2.2.2.2
      = run0.sl.dma56 c arg1 f0 g1 s0 s2 := by unfold theRun run0; dsimp only
  rw [h, xcOut_eq]
  generalize cArr (xH.view.read (Elt F) f0) (arg1.view.read (Elt F) g1) = w
  exact View.write_whole_univ main_v3_3 f7 w
end Values

/-! ## The proof data -/

variable (m : (ℓ : Loc nD τ sig) → Buf (Elt F) ℓ) (ρ : Dev nD → PrngReg)

/-- A whole memref owned at contents that read `d`. -/
theorem owns_hp (c : Dev nD) {S : Shape} {e : EltTy} (M : Memref sig .tc .vmem S e) (h : M.IsWhole) (d : S.Idx → Elt F e) :
    (owns (c : Thread nD τ) M fullShare d : sProp 𝕄) = iprop(∃ f, ⌜M.view.read (Elt F) f = d⌝ ∗ hp c M f) := by
  unfold owns hp; rw [h.set_eq_univ]

/-- The body's 22 DMA semaphores. -/
abbrev osem0 : Fin 22 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 22 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = sems c := by
  rw [Pipeline.ownSems0_eq_of_list c osem0 [0, 1, 2, 3, 4, 5, 6, 7, 8, 9, 10, 11, 12, 13, 14, 15, 16, 17, 18, 19, 20, 21] (by decide) (by decide)]; rfl
/-- The operands the body reads by its own transfers. -/
def H0 : Finset (Ref sig .tc) := {main_v0, main_arg2}
theorem H0_sub : H0 ⊆ Pipeline.restRefs sig spec0 := by decide
/-- The results the body writes by its own transfers. -/
def R0 : Finset (Ref sig .tc) := {main_v3_0, main_v3_3}
theorem R0_sub : R0 ⊆ Pipeline.restRefs sig spec0 \ H0 := by decide

/-- The four operands of the region on core `c`. -/
abbrev inX (c : Dev nD) : Vec F S256x2560 .bf16 := xH.view.read (Elt F) (V m c main_v0)
abbrev inG (c : Dev nD) : Vec F S1x2560 .f32 := iblk m c 0 t0_0
abbrev inW (c : Dev nD) : Vec F S2560x9728 .fp8e4m3 := wH.view.read (Elt F) (V m c main_arg2)
abbrev inS (c : Dev nD) : Vec F S1x9728 .f32 := iblk m c 1 t0_0

/-- The two results in HBM after the region: the output codes and the activation codes; every other buffer as the region finds it. -/
def G0 (c : Dev nD) : (b : Ref sig .tc) → Buf (Elt F) ((c : Thread nD τ).loc b) :=
  Function.update (Function.update (V m c) main_v3_0 (ycArr (inX m c) (inG m c) (inW m c) (inS m c))) main_v3_3 (cArr (inX m c) (inG m c))
theorem G0_3 (c : Dev nD) : G0 m c main_v3_3 = cArr (inX m c) (inG m c) := by unfold G0; exact Function.update_self ..
theorem G0_0 (c : Dev nD) : G0 m c main_v3_0 = ycArr (inX m c) (inG m c) (inW m c) (inS m c) := by
  unfold G0; rw [Function.update_of_ne (by decide)]; exact Function.update_self ..

theorem phi_eq (G : (c : Dev nD) → (b : Ref sig .tc) → Buf (Elt F) ((c : Thread nD τ).loc b)) (c : Dev nD) :
    (Pipeline.ΦDRG osem0 spec0 H0 R0 (V m) G c : sProp 𝕄)
      = iprop(iprop((∃ s, hp c xM s) ∗ (∃ s, hp c hM s) ∗ (∃ s, hp c xcM s) ∗ (∃ s, hp c wM s) ∗ (∃ s, hp c yM s) ∗ (∃ s, hp c ycM s))
          ∗ (∃ r, prngReg c r) ∗ sems c ∗ iprop(hp c xH (V m c main_v0) ∗ hp c wH (V m c main_arg2))
          ∗ iprop(hp c ycH (G c main_v3_0) ∗ hp c xcH (G c main_v3_3))) := by
  rw [Pipeline.ΦDRG_eq]
  unfold H0 R0 Pipeline.routed
  rw [scopedRest0_eq, ownSems00_eq, BI.bigSep_eq_bigSepL_of_eq [main_v0, main_arg2] (by decide) (by decide),
    BI.bigSep_eq_bigSepL_of_eq [main_v3_0, main_v3_3] (by decide) (by decide)]
  rfl

/-- The proof data: the arrays as the region finds them; an input's buffer left in place, a result's at its value; the invariant holds
    the scratch at anything, the semaphores at zero, the two HBM operands, and the two HBM results as found before the body and at
    their values after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => yScale (inX m c) (inG m c) (inW m c) (inS m c)
    | ⟨3, _⟩ => (broadcast S1x1 (yMax (inX m c) (inG m c) (inW m c) (inS m c)) : Vec F S1x1 .f32)
    | ⟨4, _⟩ => sRow (inX m c) (inG m c)
  Φ t := Pipeline.ΦDRG osem0 spec0 H0 R0 (V m) (if t.val = 0 then V m else G0 m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = yScale (inX m c) (inG m c) (inW m c) (inS m c) := by dsimp only [dats]
theorem after0_3 (c : Dev nD) (t : Fin cfg0.N) : (dats m 0 c).after 3 t = (broadcast S1x1 (yMax (inX m c) (inG m c) (inW m c) (inS m c)) : Vec F S1x1 .f32) := by dsimp only [dats]
theorem after0_4 (c : Dev nD) (t : Fin cfg0.N) : (dats m 0 c).after 4 t = sRow (inX m c) (inG m c) := by dsimp only [dats]
/-- Before the body an input's buffer holds its block. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem phi_pre (c : Dev nD) : (dats m 0 c).Φ t0_0.castSucc = Pipeline.ΦDRG osem0 spec0 H0 R0 (V m) (V m) c := rfl
theorem phi_post (c : Dev nD) : (dats m 0 c).Φ t0_0.succ = Pipeline.ΦDRG osem0 spec0 H0 R0 (V m) (G0 m) c := rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0_0, before0_1]
  rw [after0_0, after0_1, after0_2, after0_3, after0_4, phi_pre, phi_post, phi_eq, phi_eq, G0_0, G0_3]
  simp only [owns_hp c (st0_0 t0_0) (hstage0_0 0), owns_hp c (st0_1 t0_0) (hstage0_1 0), owns_hp c (st0_2 t0_0) (hstage0_2 0),
    owns_hp c (st0_3 t0_0) (hstage0_3 0), owns_hp c (st0_4 t0_0) (hstage0_4 0)]
  unfold Dat.owesAt Pipeline.owesWithin
  rw [show (dats m 0 c).owed t0_0.castSucc = 0 from rfl, show (dats m 0 c).owed t0_0.succ = 0 from rfl]
  iintro ⟨⟨⟨⟨%s0, HS0⟩, ⟨%s1, HS1⟩, ⟨%s2, HS2⟩, ⟨%s3, HS3⟩, ⟨%s4, HS4⟩, ⟨%s5, HS5⟩⟩, Hg, Hq, ⟨Hh0, Hh2⟩, ⟨Hh4, Hh7⟩⟩, ⟨%W, -, HW⟩,
    ⟨%d0, %g1, %e1, H1⟩, ⟨%d1, %g3, %e3, H3⟩, ⟨%d2, %g5, -, H5⟩, ⟨%d3, %g6, -, H6⟩, ⟨%d4, %g8, -, H8⟩⟩
  iapply ((run0 c (st0_0 t0_0) (hstage0_0 0) (st0_1 t0_0) (hstage0_1 0) (st0_2 t0_0) (hstage0_2 0) (st0_3 t0_0) (hstage0_3 0) (st0_4 t0_0) (hstage0_4 0)
    (V m c main_v0) (V m c main_arg2) (V m c main_v3_0) (V m c main_v3_3) g1 g3 g5 g6 g8 s0 s1 s2 s3 s4 s5).2 W _)
  isplitl [H1]; · iexact H1
  isplitl [H3]; · iexact H3
  isplitl [H5]; · iexact H5
  isplitl [H6]; · iexact H6
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [Hq]; · iexact Hq
  isplitl [Hh0]; · iexact Hh0
  isplitl [Hh2]; · iexact Hh2
  isplitl [Hh4]; · iexact Hh4
  isplitl [Hh7]; · iexact Hh7
  isplitl [HW]; · iexact HW
  rw [out4, out7, e1, e3]
  iintro ⟨H1, H3, H5, H6, H8, HS0, HS1, HS2, HS3, HS4, HS5, Hq, Hh0, Hh2, Hh4, Hh7, ⟨%W', HW'⟩⟩
  isplitl [HS0 HS1 HS2 HS3 HS4 HS5 Hg Hq Hh0 Hh2 Hh4 Hh7]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]; · iexact Hg
    isplitl [Hq]; · iexact Hq
    isplitl [Hh0 Hh2]
    · isplitl [Hh0]; · iexact Hh0
      iexact Hh2
    isplitl [Hh4]; · iexact Hh4
    iexact Hh7
  isplitl [HW']
  · iexists W'; isplitr; · ipureintro; exact fun _ _ => Or.inl trivial
    iexact HW'
  isplitl [H1]
  · iexists g1; isplitr; · ipureintro; exact e1
    iexact H1
  isplitl [H3]
  · iexists g3; isplitr; · ipureintro; exact e3
    iexact H3
  isplitl [H5]
  · iexists _; isplitr
    swap; · iexact H5
    ipureintro; have h := out5 c (st0_0 t0_0) (hstage0_0 0) (st0_1 t0_0) (hstage0_1 0) (st0_2 t0_0) (hstage0_2 0) (st0_3 t0_0) (hstage0_3 0) (st0_4 t0_0) (hstage0_4 0) (V m c main_v0) (V m c main_arg2) (V m c main_v3_0) (V m c main_v3_3) g1 g3 g5 g6 g8 s0 s1 s2 s3 s4 s5; rw [e1, e3] at h; exact h
  isplitl [H6]
  · iexists _; isplitr
    swap; · iexact H6
    ipureintro; have h := out6 c (st0_0 t0_0) (hstage0_0 0) (st0_1 t0_0) (hstage0_1 0) (st0_2 t0_0) (hstage0_2 0) (st0_3 t0_0) (hstage0_3 0) (st0_4 t0_0) (hstage0_4 0) (V m c main_v0) (V m c main_arg2) (V m c main_v3_0) (V m c main_v3_3) g1 g3 g5 g6 g8 s0 s1 s2 s3 s4 s5; rw [e1, e3] at h; exact h
  iexists _; isplitr
  swap; · iexact H8
  ipureintro; have h := out8 c (st0_0 t0_0) (hstage0_0 0) (st0_1 t0_0) (hstage0_1 0) (st0_2 t0_0) (hstage0_2 0) (st0_3 t0_0) (hstage0_3 0) (st0_4 t0_0) (hstage0_4 0) (V m c main_v0) (V m c main_arg2) (V m c main_v3_0) (V m c main_v3_3) g1 g3 g5 g6 g8 s0 s1 s2 s3 s4 s5; rw [e1] at h; exact h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- @main up to the region: the host lines before it, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole program runs; each window's array, the results written by transfers and every other buffer end as stated, every semaphore at zero. -/
theorem run_main : θ_run defs (onTc (τ := τ) (main (F := F))) (s₀ m ρ)
    (fun r => Pipeline.FramePostRG cfgs (dats m) 0 R0 (V m) (G0 m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G0 m)
    (hin := fun _ => .rfl) (hout := fun _ => .rfl)

/-! ## What is left -/

/-- The four arguments end as launched. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

/-- Buffers no window stages and no transfer writes end as the region found them; the arguments are among them. -/
theorem args_kept {r : PUnit × MemSt nD τ sig (Elt F)}
    (h : ∀ c : Dev nD, ∀ b ∈ Pipeline.restRefs sig spec0 \ R0, r.2.mem ((c.tc : Thread nD τ).loc b) = V m c b) : ArgsKept m r := fun c =>
  have k (b : Ref sig .tc) (h1) (h2) (h3 : b ∉ R0) := h c b (Finset.mem_sdiff.mpr ⟨Pipeline.mem_restRefs_of b h1 h2, h3⟩)
  ⟨(k main_arg0 (by decide) (by decide) (by decide)).trans (V_main_arg0 m c),
    (k main_arg1 (by decide) (by decide) (by decide)).trans (V_main_arg1 m c),
    (k main_arg2 (by decide) (by decide) (by decide)).trans (V_main_arg2 m c),
    (k main_arg3 (by decide) (by decide) (by decide)).trans (V_main_arg3 m c)⟩

/-- THE FRAME: every argument ends as launched, every semaphore at zero. -/
theorem frame : θ_run defs (onTc (τ := τ) (main (F := F))) ⟨m, fun _ => 0, ρ⟩ (fun r => ArgsKept m r ∧ r.2.sem = fun _ => 0) :=
  (θ_run defs _ _).mono (fun _ h => ⟨args_kept m fun c => (h.1.1 c).2, h.2⟩) (run_main m ρ)

/-- A result's array after the region, written back whole at the one point: what the body left in its window. -/
theorem arr2 (c : Dev nD) : (dats m 0 c).arrAt 2 cfg0.N = yScale (inX m c) (inG m c) (inW m c) (inS m c) := by
  funext i; refine ((dats m 0 c).arrAt_emb_eq_after_last 2 t0_0 (by decide +kernel) i).trans ?_; blk_simp; rfl
theorem arr3 (c : Dev nD) : (dats m 0 c).arrAt 3 cfg0.N = (broadcast S1x1 (yMax (inX m c) (inG m c) (inW m c) (inS m c)) : Vec F S1x1 .f32) := by
  funext i; refine ((dats m 0 c).arrAt_emb_eq_after_last 3 t0_0 (by decide +kernel) i).trans ?_; blk_simp; rfl
theorem arr4 (c : Dev nD) : (dats m 0 c).arrAt 4 cfg0.N = sRow (inX m c) (inG m c) := by
  funext i; refine ((dats m 0 c).arrAt_emb_eq_after_last 4 t0_0 (by decide +kernel) i).trans ?_; blk_simp; rfl

/-- THE RESULTS: each of the five as a function of the operands the region finds, and the arguments as launched. -/
theorem values : θ_run defs (onTc (τ := τ) (main (F := F))) ⟨m, fun _ => 0, ρ⟩ (fun r => ∀ c : Dev nD,
      r.2.mem ((c.tc : Thread nD τ).loc main_v3_0) = ycArr (inX m c) (inG m c) (inW m c) (inS m c)
      ∧ r.2.mem ((c.tc : Thread nD τ).loc main_v3_1) = yScale (inX m c) (inG m c) (inW m c) (inS m c)
      ∧ r.2.mem ((c.tc : Thread nD τ).loc main_v3_2) = (broadcast S1x1 (yMax (inX m c) (inG m c) (inW m c) (inS m c)) : Vec F S1x1 .f32)
      ∧ r.2.mem ((c.tc : Thread nD τ).loc main_v3_3) = cArr (inX m c) (inG m c)
      ∧ r.2.mem ((c.tc : Thread nD τ).loc main_v3_4) = sRow (inX m c) (inG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.2 c main_v3_0 (by decide)).trans (G0_0 m c), ((h.1.1 c).1 2).trans (arr2 m c),
    ((h.1.1 c).1 3).trans (arr3 m c), (h.1.2 c main_v3_3 (by decide)).trans (G0_3 m c), ((h.1.1 c).1 4).trans (arr4 m c),
    args_kept m (fun c => (h.1.1 c).2) c⟩) (run_main m ρ)

end Cert.KernelIdeal.Hand

end
-- ==== Proof.BitsRun.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffixV
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What a memref's buffer holds on core `c`. -/
abbrev HB (F : FTy → Type) (c : Dev nD) {sp : Space} {S : Shape} {e : EltTy} (M : Memref sig .tc sp S e) : Type := Buf (Elt F) (M.view.loc (c : Thread nD τ))
/-- The whole buffer of a memref, at contents `f`. -/
abbrev hp (c : Dev nD) {sp : Space} {S : Shape} {e : EltTy} (M : Memref sig .tc sp S e) (f : HB F c M) : sProp 𝕄 :=
  M.view.loc (c : Thread nD τ) ↦{fullShare} f
/-- A DMA semaphore of the body at zero. -/
abbrev sv (c : Dev nD) (k : DmaSem sig) : sProp 𝕄 := semVal ((c : Thread nD τ), SemLoc.dma k) 0
/-- The body's 22 DMA semaphores at zero. -/
abbrev sems (c : Dev nD) : sProp 𝕄 :=
  iprop(sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24 ∗ sv c 25 ∗ sv c 26)

/-- The activations, left in HBM. -/
abbrev xH : Memref sig .tc .hbm S256x2560 .bf16 := Memref.whole main_v0
/-- The weight, left in HBM. -/
abbrev wH : Memref sig .tc .hbm S2560x9728 .fp8e4m3 := Memref.whole main_arg2
/-- The output codes' result, left in HBM. -/
abbrev ycH : Memref sig .tc .hbm S256x9728 .fp8e4m3 := Memref.whole main_v3_0
/-- The activation codes' result, left in HBM. -/
abbrev xcH : Memref sig .tc .hbm S256x2560 .fp8e4m3 := Memref.whole main_v3_3
/-- The activations on chip. -/
abbrev xM : Memref sig .tc .vmem S256x2560 .bf16 := Memref.whole cc0_scratch0
/-- The normalised rows on chip. -/
abbrev hM : Memref sig .tc .vmem S256x2560 .f32 := Memref.whole cc0_scratch1
/-- The activation codes on chip. -/
abbrev xcM : Memref sig .tc .vmem S256x2560 .fp8e4m3 := Memref.whole cc0_scratch2
/-- The weight on chip. -/
abbrev wM : Memref sig .tc .vmem S2560x9728 .fp8e4m3 := Memref.whole cc0_scratch3
/-- The products on chip. -/
abbrev yM : Memref sig .tc .vmem S256x9728 .f32 := Memref.whole cc0_scratch4
/-- The output codes on chip. -/
abbrev ycM : Memref sig .tc .vmem S256x9728 .fp8e4m3 := Memref.whole cc0_scratch5

set_option maxHeartbeats 4000000
set_option sl_exec.dmaWindow true
set_option sl_exec.dmaWindowLent true
set_option sl_exec.rejoinFuel 100
set_option sl_exec.parts true
set_option sl_exec.lendShare "HS2"

/-- The body's run, at any contents of its buffers: from all buffers whole and every semaphore at zero it runs to the end, gives all
    of them back with every semaphore at zero again, and leaves in the three staged results, in the output codes' array and in the
    activation codes' array what the five components of the value say: four lists of written pieces and one whole array. -/
def run0 (c : Dev nD) (arg1 : Memref sig .tc .vmem S1x2560 .f32) (harg1 : arg1.IsWhole)
    (arg3 : Memref sig .tc .vmem S1x9728 .f32) (harg3 : arg3.IsWhole)
    (arg5 : Memref sig .tc .vmem S1x1 .f32) (harg5 : arg5.IsWhole)
    (arg6 : Memref sig .tc .vmem S1x1 .f32) (harg6 : arg6.IsWhole)
    (arg8 : Memref sig .tc .vmem S1x256 .f32) (harg8 : arg8.IsWhole)
    (f0 : HB F c xH) (f2 : HB F c wH)
    (f4 : HB F c ycH) (f7 : HB F c xcH)
    (g1 : HB F c arg1) (g3 : HB F c arg3) (g5 : HB F c arg5) (g6 : HB F c arg6) (g8 : HB F c arg8)
    (s0 : HB F c xM) (s1 : HB F c hM) (s2 : HB F c xcM)
    (s3 : HB F c wM) (s4 : HB F c yM) (s5 : HB F c ycM) :
    { L : List (View.Piece (Elt F) S1x1 .f32) × List (View.Piece (Elt F) S1x1 .f32) × List (View.Piece (Elt F) S1x256 .f32)
        × List (View.Piece (Elt F) S256x9728 .fp8e4m3) × (S256x2560.Idx → Elt F .fp8e4m3) //
      ∀ (W : Waits sig Unit) (K : PUnit → sProp 𝕄),
        iprop(hp c arg1 g1 ∗ hp c arg3 g3 ∗ hp c arg5 g5 ∗ hp c arg6 g6 ∗ hp c arg8 g8
            ∗ hp c xM s0 ∗ hp c hM s1 ∗ hp c xcM s2 ∗ hp c wM s3 ∗ hp c yM s4 ∗ hp c ycM s5
            ∗ sems c
            ∗ hp c xH f0 ∗ hp c wH f2 ∗ hp c ycH f4 ∗ hp c xcH f7
            ∗ owes (c : Thread nD τ) 0 W
            ∗ (iprop(hp c arg1 g1 ∗ hp c arg3 g3 ∗ hp c arg5 (arg5.view.writes (Elt F) g5 L.1)
                ∗ hp c arg6 (arg6.view.writes (Elt F) g6 L.2.1) ∗ hp c arg8 (arg8.view.writes (Elt F) g8 L.2.2.1)
                ∗ (∃ s, hp c xM s) ∗ (∃ s, hp c hM s) ∗ (∃ s, hp c xcM s)
                ∗ (∃ s, hp c wM s) ∗ (∃ s, hp c yM s) ∗ (∃ s, hp c ycM s)
                ∗ sems c
                ∗ hp c xH f0 ∗ hp c wH f2 ∗ hp c ycH (ycH.view.writes (Elt F) f4 L.2.2.2.1)
                ∗ hp c xcH (View.write (Elt F) xcH.view f7 L.2.2.2.2 Finset.univ)
                ∗ (∃ W', owes (c : Thread nD τ) 0 W')) -∗ K ⟨⟩))
          ⊢ wp frame (wpE (defs₀ (F := F)) Variants.none c none) Set.univ
              (cc0_rmsnorm_fp8_linear xH (Memref.isWhole_whole _) arg1 harg1 wH (Memref.isWhole_whole _) arg3 harg3
                ycH (Memref.isWhole_whole _) arg5 harg5 arg6 harg6 xcH (Memref.isWhole_whole _) arg8 harg8
                xM (Memref.isWhole_whole _) hM (Memref.isWhole_whole _) xcM (Memref.isWhole_whole _) wM (Memref.isWhole_whole _)
                yM (Memref.isWhole_whole _) ycM (Memref.isWhole_whole _)
                cc0_scratch6 cc0_scratch7 cc0_scratch8 cc0_scratch9) K } := by
  refine ⟨⟨?_, ?_, ?_, ?_, ?_⟩, fun W K => ?run⟩
  case run =>
    have hb : Transfers.BatchOf (c : Thread nD τ) (SemLoc.dma (26 : DmaSem sig)) 19 (windows := true) := trivial
    simp only [cc0_rmsnorm_fp8_linear_eq_skeleton]; unfold cc0_rmsnorm_fp8_linear_skel
    iintro ⟨H1, H3, H5, H6, H8, HS0, HS1, HS2, HS3, HS4, HS5,
      ⟨Hq5, Hq6, Hq7, Hq8, Hq9, Hq10, Hq11, Hq12, Hq13, Hq14, Hq15, Hq16, Hq17, Hq18, Hq19, Hq20, Hq21, Hq22, Hq23, Hq24, Hq25, Hq26⟩,
      Hh0, Hh2, Hh4, Hh7, HW, Hk⟩
    sl_exec
    sl_step
    iapply Hk
    isplitl [H1]; · iexact H1
    isplitl [H3]; · iexact H3
    isplitl [H5]; · iexact H5
    isplitl [H6]; · iexact H6
    isplitl [H8]; · iexact H8
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [Hq5 Hq6 Hq7 Hq8 Hq9 Hq10 Hq11 Hq12 Hq13 Hq14 Hq15 Hq16 Hq17 Hq18 Hq19 Hq20 Hq21 Hq22 Hq23 Hq24 Hq25 Hq26]
    · isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      iexact Hq26
    isplitl [Hh0]; · iexact Hh0
    isplitl [Hh2]; · iexact Hh2
    isplitl [Hh4]; · iexact Hh4
    isplitl [Hh7]; · iexact Hh7
    iexists _; iexact HW

end Cert.Kernel.Hand

end
-- ==== Proof.BitsFrame.lean ====
module

public import proofs.«01_k».proof.Proof.BitsRun

/-! The frame of the compiled program: the proof data of the one region, with the results forgotten, its body obligation from the run, and
    that the whole program leaves the arguments and the semaphores as launched. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The proof data -/

variable (m : (ℓ : Loc nD τ sig) → Buf (Elt F) ℓ) (ρ : Dev nD → PrngReg)

/-- A whole memref owned at contents that read `d`. -/
theorem owns_hp (c : Dev nD) {S : Shape} {e : EltTy} (M : Memref sig .tc .vmem S e) (h : M.IsWhole) (d : S.Idx → Elt F e) :
    (owns (c : Thread nD τ) M fullShare d : sProp 𝕄) = iprop(∃ f, ⌜M.view.read (Elt F) f = d⌝ ∗ hp c M f) := by
  unfold owns hp; rw [h.set_eq_univ]

/-- The body's 22 DMA semaphores. -/
abbrev osem0 : Fin 22 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 22 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = sems c := by
  rw [Pipeline.ownSems0_eq_of_list c osem0 [0, 1, 2, 3, 4, 5, 6, 7, 8, 9, 10, 11, 12, 13, 14, 15, 16, 17, 18, 19, 20, 21] (by decide) (by decide)]; rfl
/-- The operands the body reads by its own transfers. -/
def H0 : Finset (Ref sig .tc) := {main_v0, main_arg2}
theorem H0_sub : H0 ⊆ Pipeline.restRefs sig spec0 := by decide
/-- The results the body writes by its own transfers. -/
def R0 : Finset (Ref sig .tc) := {main_v3_0, main_v3_3}
theorem R0_sub : R0 ⊆ Pipeline.restRefs sig spec0 \ H0 := by decide

theorem phi_eq (c : Dev nD) :
    (Pipeline.ΦDR osem0 spec0 H0 R0 (V m) c : sProp 𝕄)
      = iprop(iprop((∃ s, hp c xM s) ∗ (∃ s, hp c hM s) ∗ (∃ s, hp c xcM s) ∗ (∃ s, hp c wM s) ∗ (∃ s, hp c yM s) ∗ (∃ s, hp c ycM s))
          ∗ (∃ r, prngReg c r) ∗ sems c ∗ iprop(hp c xH (V m c main_v0) ∗ hp c wH (V m c main_arg2))
          ∗ iprop((∃ f, hp c ycH f) ∗ (∃ f, hp c xcH f))) := by
  rw [Pipeline.ΦDR_eq]
  unfold H0 R0 Pipeline.owned
  rw [scopedRest0_eq, ownSems00_eq, BI.bigSep_eq_bigSepL_of_eq [main_v0, main_arg2] (by decide) (by decide),
    BI.bigSep_eq_bigSepL_of_eq [main_v3_0, main_v3_3] (by decide) (by decide)]
  rfl

/-- The three staged results are forgotten; the two staged operands are not. -/
def forgets0 : Fin 5 → Bool := ![false, false, true, true, true]

/-- The proof data: the arrays as the region finds them; an operand's buffer left in place, a result's unnamed; the invariant holds
    the scratch and the two HBM results at anything, the semaphores at zero and the two HBM operands. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => Pipeline.Dat.unnamed (cfg := cfg0) 2 t
    | ⟨3, _⟩ => Pipeline.Dat.unnamed (cfg := cfg0) 3 t
    | ⟨4, _⟩ => Pipeline.Dat.unnamed (cfg := cfg0) 4 t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
/-- Before the body an input's buffer holds its block. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d)
    ∗ (∃ d, owns (c : Thread nD τ) (st0_3 t) fullShare d)
    ∗ (∃ d, owns (c : Thread nD τ) (st0_4 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0_0, before0_1]
  rw [after0_0, after0_1, show (dats m 0 c).Φ t0_0.castSucc = Pipeline.ΦDR osem0 spec0 H0 R0 (V m) c from rfl,
    show (dats m 0 c).Φ t0_0.succ = Pipeline.ΦDR osem0 spec0 H0 R0 (V m) c from rfl, phi_eq]
  simp only [owns_hp c (st0_0 t0_0) (hstage0_0 0), owns_hp c (st0_1 t0_0) (hstage0_1 0), owns_hp c (st0_2 t0_0) (hstage0_2 0),
    owns_hp c (st0_3 t0_0) (hstage0_3 0), owns_hp c (st0_4 t0_0) (hstage0_4 0)]
  unfold Dat.owesAt Pipeline.owesWithin
  rw [show (dats m 0 c).owed t0_0.castSucc = 0 from rfl, show (dats m 0 c).owed t0_0.succ = 0 from rfl]
  iintro ⟨⟨⟨⟨%s0, HS0⟩, ⟨%s1, HS1⟩, ⟨%s2, HS2⟩, ⟨%s3, HS3⟩, ⟨%s4, HS4⟩, ⟨%s5, HS5⟩⟩, Hg, Hq, ⟨Hh0, Hh2⟩, ⟨⟨%f4, Hh4⟩, ⟨%f7, Hh7⟩⟩⟩, ⟨%W, -, HW⟩,
    ⟨%d0, %g1, %e1, H1⟩, ⟨%d1, %g3, %e3, H3⟩, ⟨%d2, %g5, -, H5⟩, ⟨%d3, %g6, -, H6⟩, ⟨%d4, %g8, -, H8⟩⟩
  iapply ((run0 c (st0_0 t0_0) (hstage0_0 0) (st0_1 t0_0) (hstage0_1 0) (st0_2 t0_0) (hstage0_2 0) (st0_3 t0_0) (hstage0_3 0) (st0_4 t0_0) (hstage0_4 0)
    (V m c main_v0) (V m c main_arg2) f4 f7 g1 g3 g5 g6 g8 s0 s1 s2 s3 s4 s5).2 W _)
  isplitl [H1]; · iexact H1
  isplitl [H3]; · iexact H3
  isplitl [H5]; · iexact H5
  isplitl [H6]; · iexact H6
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [Hq]; · iexact Hq
  isplitl [Hh0]; · iexact Hh0
  isplitl [Hh2]; · iexact Hh2
  isplitl [Hh4]; · iexact Hh4
  isplitl [Hh7]; · iexact Hh7
  isplitl [HW]; · iexact HW
  iintro ⟨H1, H3, H5, H6, H8, HS0, HS1, HS2, HS3, HS4, HS5, Hq, Hh0, Hh2, Hh4, Hh7, ⟨%W', HW'⟩⟩
  isplitl [HS0 HS1 HS2 HS3 HS4 HS5 Hg Hq Hh0 Hh2 Hh4 Hh7]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]; · iexact Hg
    isplitl [Hq]; · iexact Hq
    isplitl [Hh0 Hh2]
    · isplitl [Hh0]; · iexact Hh0
      iexact Hh2
    isplitl [Hh4]
    · iexists _; iexact Hh4
    iexists _; iexact Hh7
  isplitl [HW']
  · iexists W'; isplitr; · ipureintro; exact fun _ _ => Or.inl trivial
    iexact HW'
  isplitl [H1]
  · iexists g1; isplitr; · ipureintro; exact e1
    iexact H1
  isplitl [H3]
  · iexists g3; isplitr; · ipureintro; exact e3
    iexact H3
  isplitl [H5]
  · iexists _, _; isplitr; swap; · iexact H5
    ipureintro; rfl
  isplitl [H6]
  · iexists _, _; isplitr; swap; · iexact H6
    ipureintro; rfl
  iexists _, _; isplitr; swap; · iexact H8
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- @main up to the region: the host lines before it, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole program runs; every buffer that is no result ends as stated, every semaphore at zero. -/
theorem run_main : θ_run defs (onTc (τ := τ) (main (F := F))) (s₀ m ρ)
    (fun r => Pipeline.RDat.FramePostR (cfgs 0) (fun c => (dats m 0 c).toRForget forgets0) R0 (V m) r ∧ r.2.sem = fun _ => 0) :=
  Pipeline.θ_run_frame_dmaR_forget (Q' := _) cfgs (dats m) (0 : Fin 1) launch0 osem0 defs₀ Variants.none forgets0 ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-! ## What is left -/

/-- The four arguments end as launched. -/
def ArgsKept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

/-- Buffers no window stages and no transfer writes end as the region found them; the arguments are among them. -/
theorem args_kept {r : PUnit × MemSt nD τ sig (Elt F)}
    (h : ∀ c : Dev nD, ∀ b ∈ Pipeline.restRefs sig spec0 \ R0, r.2.mem ((c.tc : Thread nD τ).loc b) = V m c b) : ArgsKept m r := fun c =>
  have k (b : Ref sig .tc) (h1) (h2) (h3 : b ∉ R0) := h c b (Finset.mem_sdiff.mpr ⟨Pipeline.mem_restRefs_of b h1 h2, h3⟩)
  ⟨(k main_arg0 (by decide) (by decide) (by decide)).trans (V_main_arg0 m c),
    (k main_arg1 (by decide) (by decide) (by decide)).trans (V_main_arg1 m c),
    (k main_arg2 (by decide) (by decide) (by decide)).trans (V_main_arg2 m c),
    (k main_arg3 (by decide) (by decide) (by decide)).trans (V_main_arg3 m c)⟩

/-- THE FRAME: every argument ends as launched, every semaphore at zero. -/
theorem frame : θ_run defs (onTc (τ := τ) (main (F := F))) ⟨m, fun _ => 0, ρ⟩ (fun r => ArgsKept m r ∧ r.2.sem = fun _ => 0) :=
  (θ_run defs _ _).mono (fun _ h => ⟨args_kept m fun c => (h.1 c).2, h.2⟩) (run_main m ρ)

end Cert.Kernel.Hand

end
-- ==== Proof.Quant.lean ====
module

public import proofs.«01_k».proof.Proof.Spec
public import Idealize.ShloMosaic.PureOps.Ideal.Laws
public import Idealize.ShloMosaic.Lib.ValueIdx

/-! The quantiser's scale over the extended reals: the kernel's exponent search finds the exponent that the reference takes by a
    logarithm, and the bits the kernel assembles denote the powers of two that the reference takes by exponentials. -/

@[expose] public section

set_option maxRecDepth 16384

noncomputable section

namespace Cert.KernelIdeal.Hand

open Cert.KernelIdeal Idealize.ShloMosaic

/-! ## One element at a time -/

/-- `a / 448` as both programs form it. -/
def qS (a : EReal) : EReal := a * Ideal.ofBits .f32 0x3B124925#32
/-- The number whose exponent field is `t` and whose other bits are clear. -/
def thr (t : BitVec 32) : EReal := Ideal.ofBits .f32 (IntOp.shli .vector t 23#32)
/-- One step of the kernel's search for the exponent field. -/
def stepS (q : EReal) (bit field : BitVec 32) : BitVec 32 := if thr (field + bit) ≤ q then field + bit else field
/-- The exponent field the kernel's search finds for `q`. -/
def kSearch (q : EReal) : BitVec 32 :=
  stepS q 1#32 (stepS q 2#32 (stepS q 4#32 (stepS q 8#32 (stepS q 16#32 (stepS q 32#32 (stepS q 64#32 (stepS q 128#32 0#32)))))))
/-- The kernel's exponent field. -/
def kField (a : EReal) : BitVec 32 := if Ideal.ofBits .f32 0x7F7FFFFF#32 < a then 255#32 else kSearch (qS a)
/-- The kernel's exponent. -/
def kExp (a : EReal) : BitVec 32 := if kField a = 0#32 ∨ kField a = 255#32 then 0#32 else kField a - 126#32
/-- The kernel's scale of one magnitude. -/
def kScale (a : EReal) : EReal := thr (127#32 + kExp a)
/-- The kernel's inverse scale of one magnitude. -/
def kInv (a : EReal) : EReal := thr (127#32 - kExp a)
/-- The reference's exponent. -/
def rExp (a : EReal) : EReal :=
  if qS a < Ideal.ofBits .f32 0x00800000#32 ∨ Ideal.ofBits .f32 0x7F7FFFFF#32 < a then 0
  else Ideal.liftRound Int.floor (Ideal.div (Ideal.log (qS a)) ((Real.log 2 : ℝ) : EReal)) + 1

section Apply
variable {s : Shape} (i : s.Idx)

/-- A selection by a decided comparison is an `if`. -/
theorem select_ofBool {α : Type} (p : Prop) [Decidable p] (x y : α) : Scalar.select (BitVec.ofBool (decide p)) x y = if p then x else y := by
  unfold Scalar.select; by_cases h : p <;> simp [h]
theorem expStep_apply (q : FVec Ideal s .f32) (bit : BitVec 32) (field : IVec s 32) : expStep q bit field i = stepS (q i) bit (field i) :=
  select_ofBool (thr (field i + bit) ≤ q i) (field i + bit) (field i)
theorem expSearch_apply (q : FVec Ideal s .f32) : expSearch q i = kSearch (q i) := by
  unfold expSearch kSearch; rw [expStep_apply, expStep_apply, expStep_apply, expStep_apply, expStep_apply, expStep_apply, expStep_apply, expStep_apply]; rfl
theorem qOf_apply (a : FVec Ideal s .f32) : qOf a i = qS (a i) := rfl
theorem fieldOf_apply (a : FVec Ideal s .f32) : fieldOf a i = kField (a i) := by
  refine (select_ofBool (Ideal.ofBits .f32 0x7F7FFFFF#32 < a i) 255#32 (expSearch (qOf a) i)).trans ?_
  rw [expSearch_apply, qOf_apply]; rfl
theorem expOf_apply (a : FVec Ideal s .f32) : expOf a i = kExp (a i) := by
  have h : expOf a i = Scalar.select (IntOp.ori (IntOp.cmpi .eq (fieldOf a i) 0#32) (IntOp.cmpi .eq (fieldOf a i) 255#32)) 0#32 (fieldOf a i - 126#32) := rfl
  rw [h, fieldOf_apply]
  unfold kExp Scalar.select IntOp.ori IntOp.cmpi
  generalize kField (a i) = f
  by_cases h0 : f = 0#32
  · subst h0; simp
  · by_cases h1 : f = 255#32
    · subst h1; simp
    · have e0 : (f == 0#32) = false := beq_eq_false_iff_ne.mpr h0
      have e1 : (f == 255#32) = false := beq_eq_false_iff_ne.mpr h1
      simp [h0, h1, e0, e1]
/-- The scale is taken element by element. -/
theorem scaleOf_apply (a : FVec Ideal s .f32) : scaleOf a i = kScale (a i) := by
  have h : scaleOf a i = thr (127#32 + expOf a i) := rfl
  rw [h, expOf_apply]; rfl
/-- So is its inverse. -/
theorem invOf_apply (a : FVec Ideal s .f32) : invOf a i = kInv (a i) := by
  have h : invOf a i = thr (127#32 - expOf a i) := rfl
  rw [h, expOf_apply]; rfl
end Apply

/-! ## The bits -/

/-- A field shifted into place: sign clear, that exponent, nothing else. -/
theorem fields : ∀ t : Fin 256,
    ((IntOp.shli .vector (BitVec.ofNat 32 t.val) 23#32).extractLsb' 31 1 == 1#1) = false
    ∧ ((IntOp.shli .vector (BitVec.ofNat 32 t.val) 23#32).extractLsb' 23 8).toNat = t.val
    ∧ ((IntOp.shli .vector (BitVec.ofNat 32 t.val) 23#32).extractLsb' 0 23).toNat = 0 := by decide +kernel

/-- The number of a normal field is a power of two. -/
theorem thr_eq (t : ℕ) (h1 : 1 ≤ t) (h2 : t ≤ 254) : thr (BitVec.ofNat 32 t) = (((2 : ℝ) ^ ((t : ℤ) - 127) : ℝ) : EReal) := by
  obtain ⟨ha, hb, hc⟩ := fields ⟨t, by omega⟩
  simp only at ha hb hc
  unfold thr Ideal.ofBits Ideal.ieee
  simp only [Nat.reduceAdd, ha, hb, hc]
  rw [if_neg (by omega), if_neg (by omega)]
  refine congrArg (fun r : ℝ => (r : EReal)) ?_
  rw [show ((t : ℤ) - (2 ^ (8 - 1) - 1) - ((23 : ℕ) : ℤ)) = ((t : ℤ) - 127) + (-23) by norm_num; ring, zpow_add₀ (by norm_num : (2 : ℝ) ≠ 0)]
  generalize (2 : ℝ) ^ ((t : ℤ) - 127) = z
  norm_num
  ring
/-- The number of the all-ones field is infinite. -/
theorem thr_255 : thr 255#32 = ⊤ := by
  obtain ⟨ha, hb, hc⟩ := fields ⟨255, by omega⟩
  simp only at ha hb hc
  unfold thr Ideal.ofBits Ideal.ieee
  simp only [Nat.reduceAdd, ha, hb, hc]
  norm_num

/-! ## The search -/

/-- A step's arithmetic: from the bits above `2 ^ n` of `k` to those from `2 ^ n` on. -/
theorem stepArith : ∀ (n : Fin 8) (k : Fin 256),
    let f := k.val / 2 ^ (n.val + 1) * 2 ^ (n.val + 1)
    BitVec.ofNat 32 f + BitVec.ofNat 32 (2 ^ n.val) = BitVec.ofNat 32 (f + 2 ^ n.val)
    ∧ 1 ≤ f + 2 ^ n.val ∧ f + 2 ^ n.val ≤ 255
    ∧ (if f + 2 ^ n.val ≤ k.val then f + 2 ^ n.val else f) = k.val / 2 ^ n.val * 2 ^ n.val := by decide +kernel

theorem step_eq (q : EReal) (k : ℕ) (hk : k < 256) (hq : ∀ t : ℕ, 1 ≤ t → t ≤ 255 → (thr (BitVec.ofNat 32 t) ≤ q ↔ t ≤ k)) (n : ℕ) (hn : n < 8) :
    stepS q (BitVec.ofNat 32 (2 ^ n)) (BitVec.ofNat 32 (k / 2 ^ (n + 1) * 2 ^ (n + 1))) = BitVec.ofNat 32 (k / 2 ^ n * 2 ^ n) := by
  obtain ⟨h1, h2, h3, h4⟩ := stepArith ⟨n, hn⟩ ⟨k, hk⟩
  simp only at h1 h2 h3 h4
  unfold stepS
  rw [h1, ← h4]
  by_cases h : k / 2 ^ (n + 1) * 2 ^ (n + 1) + 2 ^ n ≤ k
  · rw [if_pos ((hq _ h2 h3).mpr h), if_pos h]
  · rw [if_neg (fun h' => h ((hq _ h2 h3).mp h')), if_neg h]
/-- The search finds the field whose number is the last one not above `q`. -/
theorem search_eq (q : EReal) (k : ℕ) (hk : k < 256) (hq : ∀ t : ℕ, 1 ≤ t → t ≤ 255 → (thr (BitVec.ofNat 32 t) ≤ q ↔ t ≤ k)) :
    kSearch q = BitVec.ofNat 32 k := by
  have s := step_eq q k hk hq
  have h0 : (0#32 : BitVec 32) = BitVec.ofNat 32 (k / 2 ^ (7 + 1) * 2 ^ (7 + 1)) := by rw [show k / 2 ^ (7 + 1) = 0 by omega]; rfl
  unfold kSearch
  rw [h0, show (128#32 : BitVec 32) = BitVec.ofNat 32 (2 ^ 7) from rfl, s 7 (by omega),
    show (64#32 : BitVec 32) = BitVec.ofNat 32 (2 ^ 6) from rfl, s 6 (by omega),
    show (32#32 : BitVec 32) = BitVec.ofNat 32 (2 ^ 5) from rfl, s 5 (by omega),
    show (16#32 : BitVec 32) = BitVec.ofNat 32 (2 ^ 4) from rfl, s 4 (by omega),
    show (8#32 : BitVec 32) = BitVec.ofNat 32 (2 ^ 3) from rfl, s 3 (by omega),
    show (4#32 : BitVec 32) = BitVec.ofNat 32 (2 ^ 2) from rfl, s 2 (by omega),
    show (2#32 : BitVec 32) = BitVec.ofNat 32 (2 ^ 1) from rfl, s 1 (by omega),
    show (1#32 : BitVec 32) = BitVec.ofNat 32 (2 ^ 0) from rfl, s 0 (by omega)]
  simp

/-! ## The kernel's scale is the reference's -/

/-- The factor the magnitude is divided by: a real between 0 and 2^-8. -/
theorem factor : ∃ r : ℝ, Ideal.ofBits .f32 0x3B124925#32 = (r : EReal) ∧ 0 < r ∧ r < (2 : ℝ) ^ (-8 : ℤ) := by
  refine ⟨_, by simp [Ideal.ofBits, Ideal.ieee]; rfl, ?_, ?_⟩ <;> norm_num
/-- The largest finite number is a real below 2^128. -/
theorem largest : ∃ r : ℝ, Ideal.ofBits .f32 0x7F7FFFFF#32 = (r : EReal) ∧ r < (2 : ℝ) ^ (128 : ℤ) := by
  refine ⟨_, by simp [Ideal.ofBits, Ideal.ieee]; rfl, ?_⟩; norm_num
/-- The smallest normal number is 2^-126. -/
theorem smallest : Ideal.ofBits .f32 0x00800000#32 = (((2 : ℝ) ^ (-126 : ℤ) : ℝ) : EReal) :=
  (show Ideal.ofBits .f32 0x00800000#32 = thr (BitVec.ofNat 32 1) from rfl).trans ((thr_eq 1 (by omega) (by omega)).trans (by norm_num))
theorem exp2_int (n : ℤ) : Ideal.exp2 (((n : ℝ) : ℝ) : EReal) = (((2 : ℝ) ^ n : ℝ) : EReal) := by
  rw [Ideal.exp2_coe]; exact congrArg _ (Real.rpow_intCast 2 n)

/-- A number of a field is at least the smallest normal one. -/
theorem smallest_le (t : ℕ) (h1 : 1 ≤ t) (h2 : t ≤ 255) : Ideal.ofBits .f32 0x00800000#32 ≤ thr (BitVec.ofNat 32 t) := by
  rcases Nat.lt_or_ge t 255 with h | h
  · rw [smallest, thr_eq t h1 (by omega), EReal.coe_le_coe_iff]
    exact zpow_le_zpow_right₀ (by norm_num) (by omega)
  · rw [show t = 255 by omega, show BitVec.ofNat 32 255 = 255#32 from rfl, thr_255]; exact le_top

/-- A power of two is at most a positive real when its exponent is at most the floor of that real's logarithm to base two. -/
theorem pow_le_iff {r : ℝ} (hr : 0 < r) (t : ℤ) : (2 : ℝ) ^ t ≤ r ↔ t ≤ ⌊Real.log r / Real.log 2⌋ := by
  rw [Int.le_floor, le_div_iff₀ (Real.log_pos (by norm_num)), ← Real.log_zpow, Real.log_le_log_iff (by positivity) hr]

/-- Where the exponents on both sides are 0, both scales are 1. -/
theorem one_of_exp0 (a : EReal) (h : kExp a = 0#32) (h' : rExp a = 0) : kScale a = Ideal.exp2 (rExp a) ∧ kInv a = Ideal.exp2 (0 - rExp a) := by
  have e : thr (127#32) = 1 := by
    rw [show (127#32 : BitVec 32) = BitVec.ofNat 32 127 from rfl, thr_eq 127 (by omega) (by omega)]; norm_num
  have e2 : Ideal.exp2 (0 : EReal) = 1 := by
    have := exp2_int 0; simp at this; exact this
  unfold kScale kInv
  rw [h, h', sub_zero, e2]
  exact ⟨e, e⟩

/-- The reciprocal exponents: the arithmetic of the assembled fields. -/
theorem fieldArith : ∀ k : Fin 247, k.val ≠ 0 →
    BitVec.ofNat 32 k.val ≠ 0#32 ∧ BitVec.ofNat 32 k.val ≠ 255#32
    ∧ 127#32 + (BitVec.ofNat 32 k.val - 126#32) = BitVec.ofNat 32 (k.val + 1)
    ∧ 127#32 - (BitVec.ofNat 32 k.val - 126#32) = BitVec.ofNat 32 (253 - k.val) := by decide +kernel

/-- THE SCALE: at every extended real the kernel's scale and its inverse are two to the reference's exponent and to its negative. -/
theorem quant_eq (a : EReal) : kScale a = Ideal.exp2 (rExp a) ∧ kInv a = Ideal.exp2 (0 - rExp a) := by
  by_cases hbig : Ideal.ofBits .f32 0x7F7FFFFF#32 < a
  · refine one_of_exp0 a ?_ ?_
    · unfold kExp kField; rw [if_pos hbig]; simp
    · unfold rExp; rw [if_pos (Or.inr hbig)]
  by_cases hsmall : qS a < Ideal.ofBits .f32 0x00800000#32
  · refine one_of_exp0 a ?_ ?_
    · have hk : kSearch (qS a) = BitVec.ofNat 32 0 := search_eq _ 0 (by omega) fun t h1 h2 =>
        ⟨fun h => absurd (lt_of_lt_of_le hsmall ((smallest_le t h1 h2).trans h)) (lt_irrefl _), fun h => absurd h (by omega)⟩
      unfold kExp kField; rw [if_neg hbig, hk]; simp
    · unfold rExp; rw [if_pos (Or.inl hsmall)]
  obtain ⟨c, hc, hc0, hc1⟩ := factor
  obtain ⟨M, hM, hM1⟩ := largest
  have hbig' := hbig
  have hsmall' := hsmall
  rw [hM] at hbig'
  rw [smallest] at hsmall'
  -- the magnitude is a real, and so is its quotient `r`
  induction a using EReal.rec with
  | bot => exact absurd (by unfold qS; rw [hc, EReal.bot_mul_coe_of_pos hc0]; exact EReal.bot_lt_coe _) hsmall'
  | top => exact absurd (EReal.coe_lt_top M) hbig'
  | coe x =>
    have hq : qS (x : EReal) = ((x * c : ℝ) : EReal) := by unfold qS; rw [hc, EReal.coe_mul]
    rw [hq, EReal.coe_lt_coe_iff, not_lt] at hsmall'
    rw [EReal.coe_lt_coe_iff, not_lt] at hbig'
    set r := x * c with hr
    have hr0 : 0 < r := lt_of_lt_of_le (by positivity) hsmall'
    have hr1 : r < (2 : ℝ) ^ (120 : ℤ) := by
      have hx0 : 0 < x := pos_of_mul_pos_left hr0 hc0.le
      calc r < (2 : ℝ) ^ (128 : ℤ) * (2 : ℝ) ^ (-8 : ℤ) := mul_lt_mul'' (lt_of_le_of_lt hbig' hM1) hc1 hx0.le hc0.le
        _ = _ := by norm_num
    set n : ℤ := ⌊Real.log r / Real.log 2⌋ with hn
    have hn0 : (-126 : ℤ) ≤ n := (pow_le_iff hr0 _).mp hsmall'
    have hn1 : n < 120 := not_le.mp fun h => absurd ((pow_le_iff hr0 _).mpr h) (not_le.mpr hr1)
    obtain ⟨k, hk⟩ : ∃ k : ℕ, (k : ℤ) = n + 127 := ⟨(n + 127).toNat, by omega⟩
    have hks : kSearch (qS (x : EReal)) = BitVec.ofNat 32 k := by
      refine search_eq _ k (by omega) fun t h1 h2 => ?_
      rw [hq]
      rcases Nat.lt_or_ge t 255 with h | h
      · rw [thr_eq t h1 (by omega), EReal.coe_le_coe_iff]
        rw [pow_le_iff hr0]; omega
      · rw [show t = 255 by omega, show BitVec.ofNat 32 255 = 255#32 from rfl, thr_255]
        exact ⟨fun h' => absurd (lt_of_lt_of_le (EReal.coe_lt_top r) h') (lt_irrefl _), fun h' => absurd h' (by omega)⟩
    obtain ⟨f0, f1, f2, f3⟩ := fieldArith ⟨k, by omega⟩ (by show k ≠ 0; omega)
    simp only at f0 f1 f2 f3
    have hke : kExp (x : EReal) = BitVec.ofNat 32 k - 126#32 := by
      unfold kExp kField; rw [if_neg hbig, hks, if_neg (by rintro (h | h); exacts [f0 h, f1 h])]
    have hre : rExp (x : EReal) = (((n + 1 : ℤ) : ℝ) : EReal) := by
      unfold rExp
      rw [if_neg (by rintro (h | h); exacts [hsmall h, hbig h]), hq, Ideal.log_coe, if_neg (not_le.mpr hr0),
        Ideal.div_coe (Real.log_pos (by norm_num)).ne', ← EReal.coe_mul, Ideal.liftRound_coe,
        show Real.log r * (1 / Real.log 2) = Real.log r / Real.log 2 by ring, ← hn]
      push_cast; rfl
    unfold kScale kInv
    rw [hke, f2, f3, hre]
    refine ⟨?_, ?_⟩
    · rw [exp2_int, thr_eq (k + 1) (by omega) (by omega)]
      congr 2; push_cast; omega
    · rw [zero_sub, ← EReal.coe_neg, ← Int.cast_neg, exp2_int, thr_eq (253 - k) (by omega) (by omega)]
      congr 2; omega

end Cert.KernelIdeal.Hand

end
-- ==== Proof.Rows.lean ====
module

public import proofs.«01_k».proof.Proof.Quant
public import proofs.«01_k».proof.Proof.Gen.ReferenceIdeal.Skeleton
public import Idealize.ShloMosaic.Lib.Pointwise
public import Idealize.ShloMosaic.Lib.Pipeline.ReadBack
public import proofs.«01_k».proof.Proof.Value

/-! The activations over the extended reals: the kernel's codes and scales, block by block, and the reference's, at once, are the
    same functions of a row and a column. -/

@[expose] public section

set_option maxRecDepth 16384

noncomputable section

namespace Cert.KernelIdeal.Hand

open Cert.KernelIdeal Idealize.ShloMosaic Idealize.ShloMosaic.Pointwise

/-! ## One row -/

/-- One row `X` normalised and weighted by `G`, at column `k`. -/
def hRow (X G : Fin 2560 → EReal) (k : Fin 2560) : EReal :=
  X k * Ideal.rsqrt ((∑ k', X k' * X k') * ((1 / 2560 : ℝ) : EReal) + Ideal.ofBits .f32 0x358637BD#32) * G k
/-- The row's largest magnitude. -/
def aRow (X G : Fin 2560 → EReal) : EReal :=
  Finset.univ.fold max (Ideal.ofBits .f32 0xFF800000#32) fun k => max (hRow X G k) (-(hRow X G k))
/-- A value clipped to [-448, 448]. -/
def clip (v : EReal) : EReal := min (Ideal.ofBits .f32 0x43E00000#32) (max (Ideal.ofBits .f32 0xC3E00000#32) v)
/-- The row's code at column `k`. -/
def cRow (X G : Fin 2560 → EReal) (k : Fin 2560) : EReal := clip (hRow X G k * kInv (aRow X G))

/-! ## The kernel's blocks -/

/-- A block's normalised rows. -/
theorem hBlk_apply (xb : Vec Ideal S32x2560 .bf16) (g : Vec Ideal S1x2560 .f32) (r : Fin 32) (k : Fin 2560) :
    hBlk xb g (ix2 r k) = hRow (fun k => xb (ix2 r k)) (fun k => g (ix2 0 k)) k := by
  unfold hBlk hRow
  pointwise [Gen.k0_pay80]
  rw [show Named.named (F := Ideal) κ "inv_d_model" (φ := .f32) 969723085#32 = ((1 / 2560 : ℝ) : EReal) from IdealRules.named_const.ideal_named_scalar _ _ _ _ rfl]

/-- A block's largest magnitudes. -/
theorem aBlk_apply (xb : Vec Ideal S32x2560 .bf16) (g : Vec Ideal S1x2560 .f32) (r : Fin 32) (z : Fin 1) :
    aBlk xb g (ix2 r z) = aRow (fun k => xb (ix2 r k)) (fun k => g (ix2 0 k)) := by
  unfold aBlk aRow
  pointwise
  simp only [hBlk_apply, Ideal.absf_def]

/-- A block's codes. -/
theorem cBlk_apply (xb : Vec Ideal S32x2560 .bf16) (g : Vec Ideal S1x2560 .f32) (r : Fin 32) (k : Fin 2560) :
    cBlk xb g (ix2 r k) = cRow (fun k => xb (ix2 r k)) (fun k => g (ix2 0 k)) k := by
  unfold cBlk clipTo cRow clip
  pointwise
  rw [invOf_apply, aBlk_apply, hBlk_apply]

/-- A block's scales. -/
theorem sBlk_apply (xb : Vec Ideal S32x2560 .bf16) (g : Vec Ideal S1x2560 .f32) (r : Fin 32) (z : Fin 1) :
    sBlk xb g (ix2 r z) = kScale (aRow (fun k => xb (ix2 r k)) (fun k => g (ix2 0 k))) := by
  unfold sBlk
  rw [scaleOf_apply, aBlk_apply]

variable (x : Vec Ideal S256x2560 .bf16) (g : Vec Ideal S1x2560 .f32)

/-- A block read out of the array: its row `r` is row `o + r`. -/
theorem ld_row (o : ℕ) (h : o + 32 ≤ 256) (r : Fin 32) (k : Fin 2560) :
    View.ld x (rRow o h) (ix2 r k) = x (ix2 ⟨o + r.val, by omega⟩ k) := by
  pointwise

theorem ld_rows (o : ℕ) (h : o + 32 ≤ 256) (r : Fin 32) :
    (fun k => View.ld x (rRow o h) (ix2 r k)) = fun k => x (ix2 ⟨o + r.val, by omega⟩ k) := funext fun k => ld_row x o h r k

/-- The codes as one function of row and column. -/
def cFn (i : Fin 256) (k : Fin 2560) : EReal := cRow (fun k => x (ix2 i k)) (fun k => g (ix2 0 k)) k
/-- The same, at an index of the array. -/
def cG : S256x2560.Idx → Elt Ideal .fp8e4m3 := fun i => cFn x g (i 0) (i 1)
/-- The scales as one function of the row. -/
def sFn (i : Fin 256) : EReal := kScale (aRow (fun k => x (ix2 i k)) (fun k => g (ix2 0 k)))

/-- Where a block's element stands in the array. -/
theorem rRow_emb (o : ℕ) (h : o + 32 ≤ 256) (r : Fin 32) (k : Fin 2560) :
    (rRow o h).emb (ix2 r k) = (ix2 (⟨o + r.val, by omega⟩ : Fin 256) k : S256x2560.Idx) := by
  funext a
  match a with
  | ⟨0, _⟩ => exact Fin.ext (congrArg (o + ·) (Nat.one_mul r.val))
  | ⟨1, _⟩ => exact Fin.ext ((congrArg (0 + ·) (Nat.one_mul k.val)).trans (Nat.zero_add _))

/-- Every block is a part of that function. -/
theorem cPiece_of (o : ℕ) (h : o + 32 ≤ 256) (j : S32x2560.Idx) :
    cBlk (View.ld x (rRow o h)) g j = cG x g ((rRow o h).emb j) := by
  idx_vars j
  rw [rRow_emb]
  exact (cBlk_apply _ _ _ _).trans (congrArg (fun X => cRow X (fun k => g (ix2 0 k)) _) (ld_rows x o h j0))

/-- A block's scales are a part of the scales' function. -/
theorem sBlk_at (o : ℕ) (h : o + 32 ≤ 256) (r : Fin 32) (z : Fin 1) (i : Fin 256) (hi : i.val = o + r.val) :
    sBlk (View.ld x (rRow o h)) g (ix2 r z) = sFn x g i := by
  refine (sBlk_apply _ _ _ _).trans ((congrArg (fun X => kScale (aRow X (fun k => g (ix2 0 k)))) (ld_rows x o h r)).trans ?_)
  rw [show (⟨o + r.val, by omega⟩ : Fin 256) = i from Fin.ext hi.symm]
  rfl

/-- THE CODES. -/
theorem cArr_apply (i : S256x2560.Idx) : cArr x g i = cFn x g (i 0) (i 1) := by
  have h := View.canon_append_of_piecesOf (cG x g) [] (cPieces x g)
    ⟨cPiece_of x g _ _, cPiece_of x g _ _, cPiece_of x g _ _, cPiece_of x g _ _, cPiece_of x g _ _, cPiece_of x g _ _, cPiece_of x g _ _, cPiece_of x g _ _, trivial⟩
    i (cPieces_cover x g i)
  rw [List.append_nil] at h
  exact h

/-- THE SCALES. -/
theorem sCol_apply (i : Fin 256) (z : Fin 1) : sCol x g (ix2 i z) = sFn x g i := by
  unfold sCol
  pointwise
  split_ifs <;> exact sBlk_at x g _ _ _ _ _ (by simp only []; omega)

/-- The scales' row. -/
theorem sRow_apply (z : Fin 1) (i : Fin 256) : sRow x g (ix2 z i) = sFn x g i := by
  unfold sRow
  pointwise
  exact sCol_apply x g i _

/-! ## The reference -/

theorem exp2_def (a : EReal) : FloatOps.exp2 (F := Ideal) (φ := .f32) a = Ideal.exp2 a := rfl
theorem ln2 : Named.named (F := Ideal) Cert.ReferenceIdeal.κ "ln2" (φ := .f32) 0x3F317218#32 = ((Real.log 2 : ℝ) : EReal) :=
  IdealRules.named_const.ideal_named_scalar _ _ _ _ rfl
/-- 2560, from its bits. -/
theorem dModel : Ideal.ofBits .f32 0x45200000#32 = ((2560 : ℝ) : EReal) := by
  simp [Ideal.ofBits, Ideal.ieee]; rw [← EReal.coe_mul]; norm_num

/-- The reference's exponent, as it is printed. -/
theorem rExp_printed (a : EReal) :
    Scalar.select (IntOp.ori (BitVec.ofBool (decide (a * Ideal.ofBits .f32 0x3B124925#32 < Ideal.ofBits .f32 0x00800000#32)))
      (BitVec.ofBool (decide (Ideal.ofBits .f32 0x7F7FFFFF#32 < a)))) (0 : EReal)
      (Ideal.liftRound Int.floor (Ideal.div (Ideal.log (a * Ideal.ofBits .f32 0x3B124925#32)) (Named.named (F := Ideal) Cert.ReferenceIdeal.κ "ln2" (φ := .f32) 0x3F317218#32)) + 1)
      = rExp a := by
  rw [ln2]
  unfold rExp qS
  by_cases h1 : a * Ideal.ofBits .f32 0x3B124925#32 < Ideal.ofBits .f32 0x00800000#32 <;>
    by_cases h2 : Ideal.ofBits .f32 0x7F7FFFFF#32 < a <;> simp [h1, h2, Scalar.select, IntOp.ori]

/-- The reference's normalised rows. -/
theorem ref_h (r : Fin 256) (k : Fin 2560) :
    Cert.ReferenceIdeal.Gen.k0_pay2 x g (ix2 r k) = hRow (fun k => x (ix2 r k)) (fun k => g (ix2 0 k)) k := by
  unfold hRow
  pointwise [Cert.ReferenceIdeal.Gen.k0_pay2]
  rw [dModel, Ideal.div_coe (by norm_num)]

/-- The reference's exponents. -/
theorem ref_exp (r : Fin 256) (z : Fin 1) :
    Cert.ReferenceIdeal.Gen.k0_pay3 x g (ix2 r z) = rExp (aRow (fun k => x (ix2 r k)) (fun k => g (ix2 0 k))) := by
  unfold aRow
  pointwise [Cert.ReferenceIdeal.Gen.k0_pay3]
  simp only [ref_h, Ideal.absf_def]
  exact rExp_printed _

/-- The reference's scales. -/
theorem ref_scale (r : Fin 256) (z : Fin 1) : Cert.ReferenceIdeal.Gen.k0_pay4 x g (ix2 r z) = sFn x g r := by
  pointwise [Cert.ReferenceIdeal.Gen.k0_pay4]
  rw [ref_exp, sFn, (quant_eq _).1, exp2_def]

/-- The reference's codes. -/
theorem ref_codes (r : Fin 256) (k : Fin 2560) :
    Cert.ReferenceIdeal.Gen.k0_pay6 (Scalar.ofBits .f32 0x43E00000#32) (Cert.ReferenceIdeal.Gen.k0_pay5 x g) (ix2 r k) = cFn x g r k := by
  unfold cFn cRow clip
  pointwise [Cert.ReferenceIdeal.Gen.k0_pay6, Cert.ReferenceIdeal.Gen.k0_pay5]
  rw [ref_exp, ref_h, (quant_eq _).2, exp2_def]

end Cert.KernelIdeal.Hand

end
-- ==== Proof.Cols.lean ====
module

public import proofs.«01_k».proof.Proof.Rows

/-! The products over the extended reals: the kernel's chunks and the reference's product, at once, are the same function of a row
    and a column, and the kernel's running maxima come to the reference's maximum. -/

@[expose] public section

set_option maxRecDepth 16384

noncomputable section

namespace Cert.KernelIdeal.Hand

open Cert.KernelIdeal Idealize.ShloMosaic Idealize.ShloMosaic.Pointwise

variable (x : Vec Ideal S256x2560 .bf16) (g : Vec Ideal S1x2560 .f32) (w : Vec Ideal S2560x9728 .fp8e4m3) (ws : Vec Ideal S1x9728 .f32)

/-! ## The products -/

/-- The product at row `i`, column `j`. -/
def yFn (i : Fin 256) (j : Fin 9728) : EReal :=
  (∑ k : Fin 2560, cFn x g i k * w (ix2 k j)) * sFn x g i * ws (ix2 0 j)
/-- Its magnitude. -/
def yAbs (i : Fin 256) (j : Fin 9728) : EReal := max (yFn x g w ws i j) (-(yFn x g w ws i j))

/-- A chunk of the weight read out of the array. -/
theorem ld_w (o : ℕ) (h : o + 512 ≤ 9728) (k : Fin 2560) (j : Fin 512) :
    View.ld w (rW o h) (ix2 k j) = w (ix2 k ⟨o + j.val, by omega⟩) := by
  pointwise

/-- A chunk of the weight's scales read out of the array. -/
theorem ld_ws (o : ℕ) (h : o + 512 ≤ 9728) (z : Fin 1) (j : Fin 512) :
    View.ld ws (rS o h) (ix2 z j) = ws (ix2 0 ⟨o + j.val, by omega⟩) := by
  obtain rfl : z = 0 := Subsingleton.elim _ _
  pointwise

/-- One chunk of products, from any codes, scales and weights. -/
theorem yOf_apply (X : Vec Ideal S256x2560 .fp8e4m3) (sc : FVec Ideal S256x1 .f32) (wc : Vec Ideal S2560x512 .fp8e4m3)
    (wsc : Vec Ideal S1x512 .f32) (i : Fin 256) (j : Fin 512) :
    yOf X sc wc wsc (ix2 i j) = (∑ k : Fin 2560, X (ix2 i k) * wc (ix2 k j)) * sc (ix2 i 0) * wsc (ix2 0 j) := by
  pointwise [yOf]

/-- The products of a chunk are products of the whole. -/
theorem yC_apply (o : ℕ) (h : o + 512 ≤ 9728) (i : Fin 256) (j : Fin 512) :
    yC x g w ws o h (ix2 i j) = yFn x g w ws i ⟨o + j.val, by omega⟩ := by
  have e : ∀ k : Fin 2560, cArr x g (ix2 i k) * View.ld w (rW o h) (ix2 k j) = cFn x g i k * w (ix2 k ⟨o + j.val, by omega⟩) := fun k => by
    rw [ld_w, show cArr x g (ix2 i k) = cFn x g i k from cArr_apply x g (ix2 i k)]
  refine (yOf_apply _ _ _ _ i j).trans ?_
  rw [Finset.sum_congr rfl fun k _ => e k, sCol_apply, ld_ws]
  rfl

/-- The reference's products. -/
theorem ref_y (i : Fin 256) (j : Fin 9728) :
    Cert.ReferenceIdeal.Gen.k0_pay7 (Cert.ReferenceIdeal.Gen.k0_pay4 x g) (Scalar.ofBits .f32 0x43E00000#32) (Cert.ReferenceIdeal.Gen.k0_pay5 x g) w ws (ix2 i j)
      = yFn x g w ws i j := by
  have e : ∀ k : Fin 2560, Cert.ReferenceIdeal.Gen.k0_pay6 (Ideal.ofBits .f32 0x43E00000#32) (Cert.ReferenceIdeal.Gen.k0_pay5 x g) (ix2 i k) = cFn x g i k := ref_codes x g i
  unfold yFn
  pointwise [Cert.ReferenceIdeal.Gen.k0_pay7]
  simp only [e, ref_scale]

/-! ## The largest magnitude -/

/-- Minus infinity, from its bits. -/
theorem negInf : Ideal.ofBits .f32 0xFF800000#32 = ⊥ := by simp [Ideal.ofBits, Ideal.ieee]

/-- A maximum taken from minus infinity is bounded where all it is taken over is. -/
theorem fold_le {ι : Type} (s : Finset ι) (f : ι → EReal) (c : EReal) :
    s.fold max (Ideal.ofBits .f32 0xFF800000#32) f ≤ c ↔ ∀ i ∈ s, f i ≤ c := by
  rw [negInf, Finset.fold_max_le]
  exact and_iff_right bot_le

/-- The maximum over the first and third axis. -/
theorem chunkMax_le (v : FVec Ideal S32x8x4x128 .f32) (a : Fin 8) (b : Fin 128) (c : EReal) :
    multiReduction .maximumf [0, 2] S8x128 v 0xFF800000#32 Gen.reduces_S32x8x4x128_S8x128 (.inl rfl) rfl (ix2 a b) ≤ c
      ↔ ∀ (p : Fin 32) (q : Fin 4), v (ix4 p a q b) ≤ c := by
  have e := multiReduction_maximumf_eq_fold (F := Ideal) v 0xFF800000#32 Gen.reduces_S32x8x4x128_S8x128 (.inl rfl) rfl (ix2 a b)
  refine (iff_of_eq (congrArg (· ≤ c) e)).trans ((fold_le _ _ _).trans ⟨fun h p q => h _ (Finset.mem_filter.mpr ⟨Finset.mem_univ _, ?_⟩), fun h i hi => ?_⟩)
  · funext d
    match d with
    | ⟨0, _⟩ => rfl
    | ⟨1, _⟩ => rfl
  · have hd := (Finset.mem_filter.mp hi).2
    have ha : i 1 = a := congrFun hd 0
    have hb : i 3 = b := congrFun hd 1
    have hi' : i = ix4 (i 0) a (i 2) b := by
      rw [← ha, ← hb]
      exact eq_ix4 i
    rw [hi']
    exact h _ _

/-- The magnitudes of a chunk, as the array of rank 4 the maxima are taken over. -/
theorem chunk4 (y : FVec Ideal S256x512 .f32) (p : Fin 32) (a : Fin 8) (q : Fin 4) (b : Fin 128) :
    shapeCast S32x8x4x128 (absf y) Gen.shapeCasts_S256x512_S32x8x4x128 (ix4 p a q b)
      = max (y (ix2 ⟨p.val * 8 + a.val, by omega⟩ ⟨q.val * 128 + b.val, by omega⟩)) (-(y (ix2 ⟨p.val * 8 + a.val, by omega⟩ ⟨q.val * 128 + b.val, by omega⟩))) := by
  pointwise
  rfl

/-- The running maxima one chunk further are bounded where they were and the chunk's magnitudes are. -/
theorem mStep_le (acc : FVec Ideal S8x128 .f32) (y : FVec Ideal S256x512 .f32) (a : Fin 8) (b : Fin 128) (c : EReal) :
    mStep acc y (ix2 a b) ≤ c ↔ acc (ix2 a b) ≤ c ∧
      ∀ (p : Fin 32) (q : Fin 4), max (y (ix2 ⟨p.val * 8 + a.val, by omega⟩ ⟨q.val * 128 + b.val, by omega⟩)) (-(y (ix2 ⟨p.val * 8 + a.val, by omega⟩ ⟨q.val * 128 + b.val, by omega⟩))) ≤ c := by
  refine (max_le_iff (a := acc (ix2 a b))).trans (and_congr_right fun _ => (chunkMax_le _ a b c).trans ?_)
  simp only [chunk4]

/-- A property of a chunk's magnitudes at every place of the array of rank 4 is one at every row and column. -/
theorem mStep_all (acc : FVec Ideal S8x128 .f32) (y : FVec Ideal S256x512 .f32) (c : EReal) :
    (∀ a b, mStep acc y (ix2 a b) ≤ c) ↔ (∀ a b, acc (ix2 a b) ≤ c) ∧ ∀ i j, max (y (ix2 i j)) (-(y (ix2 i j))) ≤ c := by
  simp only [mStep_le]
  refine ⟨fun h => ⟨fun a b => (h a b).1, fun i j => ?_⟩, fun h a b => ⟨h.1 a b, fun p q => h.2 _ _⟩⟩
  have := (h ⟨i.val % 8, by omega⟩ ⟨j.val % 128, by omega⟩).2 ⟨i.val / 8, by omega⟩ ⟨j.val / 128, by omega⟩
  simp only [Nat.div_add_mod'] at this
  exact this

theorem mTop_le (acc : FVec Ideal S8x128 .f32) (c : EReal) : mTop acc ≤ c ↔ ∀ a b, acc (ix2 a b) ≤ c := by
  pointwise [mTop]
  exact (fold_le _ _ _).trans ⟨fun h a b => h (a, b) (Finset.mem_univ _), fun h p _ => h p.1 p.2⟩

/-- The running maxima over a list of chunks. -/
theorem fold_mStep (c : EReal) : ∀ (L : List (FVec Ideal S256x512 .f32)) (acc : FVec Ideal S8x128 .f32),
    (∀ a b, L.foldl mStep acc (ix2 a b) ≤ c) ↔ (∀ a b, acc (ix2 a b) ≤ c) ∧ ∀ y ∈ L, ∀ i j, max (y (ix2 i j)) (-(y (ix2 i j))) ≤ c
  | [], acc => by simp
  | y :: L, acc => by
    rw [List.foldl_cons, fold_mStep c L, mStep_all, List.forall_mem_cons, and_assoc]

/-- A magnitude is at least zero. -/
theorem abs_nonneg' (v : EReal) : 0 ≤ max v (-v) := by
  rcases le_total 0 v with h | h
  · exact le_max_of_le_left h
  · exact le_max_of_le_right (EReal.neg_nonneg.mpr h)

/-- A bound of the magnitudes of all the chunks is a bound of all magnitudes. -/
theorem ys_le (c : EReal) : (∀ y ∈ ys x g w ws, ∀ i j, max (y (ix2 i j)) (-(y (ix2 i j))) ≤ c) ↔ ∀ i j, yAbs x g w ws i j ≤ c := by
  simp only [ys, List.forall_mem_cons, yC_apply]
  constructor
  · rintro ⟨h0, h1, h2, h3, h4, h5, h6, h7, h8, h9, h10, h11, h12, h13, h14, h15, h16, h17, h18, -⟩ i j
    have key : ∀ (o : ℕ) (h : o + 512 ≤ 9728) (hj : o ≤ j.val ∧ j.val < o + 512),
        (∀ (i : Fin 256) (j : Fin 512), max (yFn x g w ws i ⟨o + j.val, by omega⟩) (-(yFn x g w ws i ⟨o + j.val, by omega⟩)) ≤ c) → yAbs x g w ws i j ≤ c :=
      fun o h hj H => by
        have := H i ⟨j.val - o, by omega⟩
        simp only [Nat.add_sub_cancel' hj.1] at this
        exact this
    obtain ⟨t, ht⟩ : ∃ t, t = j.val / 512 := ⟨_, rfl⟩
    have ht' : t < 19 := by omega
    interval_cases t
    · exact key 0 (by decide) (by omega) h0
    · exact key 512 (by decide) (by omega) h1
    · exact key 1024 (by decide) (by omega) h2
    · exact key 1536 (by decide) (by omega) h3
    · exact key 2048 (by decide) (by omega) h4
    · exact key 2560 (by decide) (by omega) h5
    · exact key 3072 (by decide) (by omega) h6
    · exact key 3584 (by decide) (by omega) h7
    · exact key 4096 (by decide) (by omega) h8
    · exact key 4608 (by decide) (by omega) h9
    · exact key 5120 (by decide) (by omega) h10
    · exact key 5632 (by decide) (by omega) h11
    · exact key 6144 (by decide) (by omega) h12
    · exact key 6656 (by decide) (by omega) h13
    · exact key 7168 (by decide) (by omega) h14
    · exact key 7680 (by decide) (by omega) h15
    · exact key 8192 (by decide) (by omega) h16
    · exact key 8704 (by decide) (by omega) h17
    · exact key 9216 (by decide) (by omega) h18
  · intro h
    refine ⟨?_, ?_, ?_, ?_, ?_, ?_, ?_, ?_, ?_, ?_, ?_, ?_, ?_, ?_, ?_, ?_, ?_, ?_, ?_, ?_⟩
    on_goal 20 => simp
    all_goals exact fun i j => h i _

/-- The kernel's largest magnitude is bounded where all magnitudes are. -/
theorem yMax_le (c : EReal) : yMax x g w ws ≤ c ↔ ∀ i j, yAbs x g w ws i j ≤ c := by
  unfold yMax
  rw [mTop_le, fold_mStep, ys_le]
  refine and_iff_right_of_imp fun h a b => ?_
  exact (le_of_eq (Ideal.ofBits_zero_f32 : m0 (F := Ideal) (ix2 a b) = 0)).trans ((abs_nonneg' _).trans (h 0 0))

/-- The reference's largest magnitude is bounded where all magnitudes are. -/
theorem ref_top (z z' : Fin 1) (c : EReal) :
    Cert.ReferenceIdeal.Gen.k0_pay8 (Cert.ReferenceIdeal.Gen.k0_pay4 x g) (Scalar.ofBits .f32 0x43E00000#32) (Cert.ReferenceIdeal.Gen.k0_pay5 x g) w ws (ix2 z z') ≤ c
      ↔ ∀ i j, yAbs x g w ws i j ≤ c := by
  have e : ∀ i j, Cert.ReferenceIdeal.Gen.k0_pay7 (Cert.ReferenceIdeal.Gen.k0_pay4 x g) (Ideal.ofBits .f32 0x43E00000#32) (Cert.ReferenceIdeal.Gen.k0_pay5 x g) w ws (ix2 i j)
      = yFn x g w ws i j := ref_y x g w ws
  pointwise [Cert.ReferenceIdeal.Gen.k0_pay8]
  simp only [e, Ideal.absf_def]
  exact (fold_le _ _ _).trans ⟨fun h a b => h (a, b) (Finset.mem_univ _), fun h p _ => h p.1 p.2⟩

/-- THE LARGEST MAGNITUDE. -/
theorem ref_max (z z' : Fin 1) :
    Cert.ReferenceIdeal.Gen.k0_pay8 (Cert.ReferenceIdeal.Gen.k0_pay4 x g) (Scalar.ofBits .f32 0x43E00000#32) (Cert.ReferenceIdeal.Gen.k0_pay5 x g) w ws (ix2 z z')
      = yMax x g w ws :=
  eq_of_forall_ge_iff fun c => (ref_top x g w ws z z' c).trans (yMax_le x g w ws c).symm

end Cert.KernelIdeal.Hand

end
-- ==== Proof.Agree.lean ====
module

public import proofs.«01_k».proof.Proof.Cols

/-! What the kernel computes is what the reference computes, over the extended reals: the five results, as arrays. -/

@[expose] public section

set_option maxRecDepth 16384

noncomputable section

namespace Cert.KernelIdeal.Hand

open Cert.KernelIdeal Idealize.ShloMosaic Idealize.ShloMosaic.Pointwise

variable (x : Vec Ideal S256x2560 .bf16) (g : Vec Ideal S1x2560 .f32) (w : Vec Ideal S2560x9728 .fp8e4m3) (ws : Vec Ideal S1x9728 .f32)

/-! ## The kernel's output codes -/

/-- The output code at row `i`, column `j`. -/
def ycFn (i : Fin 256) (j : Fin 9728) : EReal := clip (yFn x g w ws i j * kInv (yMax x g w ws))
/-- The same, at an index of the array. -/
def ycG : S256x9728.Idx → Elt Ideal .fp8e4m3 := fun i => ycFn x g w ws (i 0) (i 1)

/-- The corner of a block of scales of one magnitude is that magnitude's scale. -/
theorem scaleCorner (a : EReal) (z z' : Fin 1) :
    extractStridedSlice S1x1 ![0, 0] (scaleOf (F := Ideal) (broadcast S8x128 a)) Gen.slices_S8x128_o0_0_S1x1 (ix2 z z') = kScale a := scaleOf_apply _ _
/-- So for the inverses. -/
theorem invCorner (a : EReal) (z z' : Fin 1) :
    extractStridedSlice S1x1 ![0, 0] (invOf (F := Ideal) (broadcast S8x128 a)) Gen.slices_S8x128_o0_0_S1x1 (ix2 z z') = kInv a := invOf_apply _ _
/-- The output scale. -/
theorem yScale_apply (z z' : Fin 1) : yScale x g w ws (ix2 z z') = kScale (yMax x g w ws) := by
  unfold yScale
  generalize yMax x g w ws = a
  exact scaleCorner a z z'
/-- The output scale's inverse. -/
theorem yInv_apply (z z' : Fin 1) : yInv x g w ws (ix2 z z') = kInv (yMax x g w ws) := by
  unfold yInv
  generalize yMax x g w ws = a
  exact invCorner a z z'

/-- Where a chunk's element stands in the array. -/
theorem rY_emb (o : ℕ) (h : o + 512 ≤ 9728) (i : Fin 256) (j : Fin 512) :
    (rY o h).emb (ix2 i j) = (ix2 i (⟨o + j.val, by omega⟩ : Fin 9728) : S256x9728.Idx) := by
  funext a
  match a with
  | ⟨0, _⟩ => exact Fin.ext ((congrArg (0 + ·) (Nat.one_mul i.val)).trans (Nat.zero_add _))
  | ⟨1, _⟩ => exact Fin.ext (congrArg (o + ·) (Nat.one_mul j.val))

/-- The codes of any chunk of products. -/
theorem ycOf_apply (y : FVec Ideal S256x512 .f32) (inv : FVec Ideal S1x1 .f32) (i : Fin 256) (j : Fin 512) :
    ycOf y inv (ix2 i j) = clip (y (ix2 i j) * inv (ix2 0 0)) := by
  unfold clip
  pointwise [ycOf, clipTo]

/-- Every chunk is a part of that function. -/
theorem ycPiece_of (o : ℕ) (h : o + 512 ≤ 9728) (j : S256x512.Idx) :
    ycOf (yC x g w ws o h) (yInv x g w ws) j = ycG x g w ws ((rY o h).emb j) := by
  idx_vars j
  rw [rY_emb]
  refine (ycOf_apply _ _ _ _).trans ?_
  rw [yC_apply, yInv_apply]
  rfl

/-- The chunks cover the array. -/
theorem ycPieces_cover : ∀ y : S256x9728.Idx, ∃ p ∈ ycPieces x g w ws, y ∈ p.1.set :=
  View.cover_of_tiledL (ycPieces x g w ws) S256x512.size (by sl_kernel_rfl)

/-- The output codes. -/
theorem ycArr_apply (i : S256x9728.Idx) : ycArr x g w ws i = ycG x g w ws i := by
  have P := ycPiece_of x g w ws
  have h := View.canon_append_of_piecesOf (ycG x g w ws) [] (ycPieces x g w ws)
    ⟨P _ _, P _ _, P _ _, P _ _, P _ _, P _ _, P _ _, P _ _, P _ _, P _ _, P _ _, P _ _, P _ _, P _ _, P _ _, P _ _, P _ _, P _ _, P _ _, trivial⟩
    i (ycPieces_cover x g w ws i)
  rw [List.append_nil] at h
  exact h

/-! ## The reference's output -/

section Points
variable (y e : FVec Ideal Cert.ReferenceIdeal.S1x1 .f32) (Y : FVec Ideal Cert.ReferenceIdeal.S256x9728 .f32)

/-- The exponential at one index. -/
theorem exp_at (z z' : Fin 1) (b : EReal) (h : e (ix2 z z') = b) : Idealize.ShloMosaic.exp2 e (ix2 z z') = Ideal.exp2 b := by
  rw [← h]
  rfl

/-- The exponent at one index. -/
theorem exponent_at (i : Cert.ReferenceIdeal.S1x1.Idx) :
    Idealize.ShloMosaic.select
      (Idealize.ShloMosaic.ori (cmpf .olt (mulf y (broadcast Cert.ReferenceIdeal.S1x1 (Scalar.ofBits .f32 0x3B124925#32))) (broadcast Cert.ReferenceIdeal.S1x1 (Scalar.ofBits .f32 0x00800000#32)))
        (cmpf .ogt y (broadcast Cert.ReferenceIdeal.S1x1 (Scalar.ofBits .f32 0x7F7FFFFF#32))))
      (broadcast Cert.ReferenceIdeal.S1x1 (Scalar.ofBits .f32 0x00000000#32))
      (addf (Idealize.ShloMosaic.floor (divf (Idealize.ShloMosaic.log (mulf y (broadcast Cert.ReferenceIdeal.S1x1 (Scalar.ofBits .f32 0x3B124925#32)))) (broadcast Cert.ReferenceIdeal.S1x1 (Named.named Cert.ReferenceIdeal.κ "ln2" 0x3F317218#32))))
        (broadcast Cert.ReferenceIdeal.S1x1 (Scalar.ofBits .f32 0x3F800000#32))) i
      = rExp (y i) := by
  refine Eq.trans ?_ (rExp_printed (y i))
  pointwise

/-- The codes at one index. -/
theorem codes_at (b : EReal) (h : e (ix2 0 0) = b) (i : Fin 256) (j : Fin 9728) :
    truncf (F := Ideal) .fp8e4m3 (minimumf (broadcast Cert.ReferenceIdeal.S256x9728 (Scalar.ofBits .f32 0x43E00000#32)) (maximumf (broadcast Cert.ReferenceIdeal.S256x9728 (Scalar.ofBits .f32 0xC3E00000#32))
      (mulf Y (broadcastTo Cert.ReferenceIdeal.S256x9728 (Idealize.ShloMosaic.exp2 (subf (broadcast Cert.ReferenceIdeal.S1x1 (Scalar.ofBits .f32 0x00000000#32)) e)) Cert.ReferenceIdeal.Gen.broadcasts_S1x1_S256x9728)))) Cert.ReferenceIdeal.Gen.bitsLt_fp8e4m3_f32 (ix2 i j)
      = clip (Y (ix2 i j) * Ideal.exp2 (0 - b)) := by
  unfold clip
  pointwise
  rw [h, exp2_def]
end Points

section Printed
variable (v35 : FVec Ideal S256x1 .f32) (cst : Ideal .f32) (v42 : FVec Ideal S256x2560 .f32) (a : EReal)

/-- The exponent of a largest magnitude `a`. -/
theorem pay9_of (h : ∀ z z' : Fin 1, Cert.ReferenceIdeal.Gen.k0_pay8 v35 cst v42 w ws (ix2 z z') = a) (z z' : Fin 1) :
    Cert.ReferenceIdeal.Gen.k0_pay9 v35 cst v42 w ws (ix2 z z') = rExp a := by
  unfold Cert.ReferenceIdeal.Gen.k0_pay9
  exact (exponent_at (Cert.ReferenceIdeal.Gen.k0_pay8 v35 cst v42 w ws) (ix2 z z')).trans (congrArg rExp (h z z'))

/-- The scale of an exponent. -/
theorem pay10_of (h : ∀ z z' : Fin 1, Cert.ReferenceIdeal.Gen.k0_pay9 v35 cst v42 w ws (ix2 z z') = rExp a) (z z' : Fin 1) :
    Cert.ReferenceIdeal.Gen.k0_pay10 v35 cst v42 w ws (ix2 z z') = kScale a := by
  unfold Cert.ReferenceIdeal.Gen.k0_pay10
  exact (exp_at (Cert.ReferenceIdeal.Gen.k0_pay9 v35 cst v42 w ws) z z' _ (h z z')).trans (quant_eq a).1.symm

/-- The codes at an exponent. -/
theorem pay11_of (h : ∀ z z' : Fin 1, Cert.ReferenceIdeal.Gen.k0_pay9 v35 cst v42 w ws (ix2 z z') = rExp a)
    (i : Fin 256) (j : Fin 9728) :
    Cert.ReferenceIdeal.Gen.k0_pay11 v35 cst v42 w ws (ix2 i j) = clip (Cert.ReferenceIdeal.Gen.k0_pay7 v35 cst v42 w ws (ix2 i j) * kInv a) := by
  unfold Cert.ReferenceIdeal.Gen.k0_pay11
  rw [(quant_eq a).2]
  exact codes_at (Cert.ReferenceIdeal.Gen.k0_pay9 v35 cst v42 w ws) (Cert.ReferenceIdeal.Gen.k0_pay7 v35 cst v42 w ws) _ (h 0 0) i j
end Printed

/-- The reference's output exponent. -/
theorem ref_yexp (z z' : Fin 1) : Cert.ReferenceIdeal.Gen.k0_pay9 (Cert.ReferenceIdeal.Gen.k0_pay4 x g) (Scalar.ofBits .f32 0x43E00000#32) (Cert.ReferenceIdeal.Gen.k0_pay5 x g) w ws (ix2 z z') = rExp (yMax x g w ws) :=
  pay9_of w ws _ _ _ _ (ref_max x g w ws) z z'

/-- The reference's output scale. -/
theorem ref_yscale (z z' : Fin 1) : Cert.ReferenceIdeal.Gen.k0_pay10 (Cert.ReferenceIdeal.Gen.k0_pay4 x g) (Scalar.ofBits .f32 0x43E00000#32) (Cert.ReferenceIdeal.Gen.k0_pay5 x g) w ws (ix2 z z') = kScale (yMax x g w ws) :=
  pay10_of w ws _ _ _ _ (ref_yexp x g w ws) z z'

/-- The reference's output codes. -/
theorem ref_ycodes (i : Fin 256) (j : Fin 9728) : Cert.ReferenceIdeal.Gen.k0_pay11 (Cert.ReferenceIdeal.Gen.k0_pay4 x g) (Scalar.ofBits .f32 0x43E00000#32) (Cert.ReferenceIdeal.Gen.k0_pay5 x g) w ws (ix2 i j) = ycFn x g w ws i j := by
  refine (pay11_of w ws _ (Scalar.ofBits .f32 0x43E00000#32) _ _ (ref_yexp x g w ws) i j).trans ?_
  exact congrArg (fun y => clip (y * kInv (yMax x g w ws))) (ref_y x g w ws i j)

/-! ## The five results -/

/-- One value everywhere, at any index. -/
theorem same_apply (a : EReal) (i : S1x1.Idx) : (broadcast S1x1 a : FVec Ideal S1x1 .f32) i = a := rfl

/-- The output codes agree. -/
theorem agree0 : ycArr x g w ws = Cert.ReferenceIdeal.Gen.k0_pay11 (Cert.ReferenceIdeal.Gen.k0_pay4 x g) (Scalar.ofBits .f32 0x43E00000#32) (Cert.ReferenceIdeal.Gen.k0_pay5 x g) w ws := by
  funext j
  idx_vars j
  exact (ycArr_apply x g w ws _).trans (ref_ycodes x g w ws j0 j1).symm
/-- The output scale agrees. -/
theorem agree1 : yScale x g w ws = Cert.ReferenceIdeal.Gen.k0_pay10 (Cert.ReferenceIdeal.Gen.k0_pay4 x g) (Scalar.ofBits .f32 0x43E00000#32) (Cert.ReferenceIdeal.Gen.k0_pay5 x g) w ws := by
  funext j
  idx_vars j
  exact (yScale_apply x g w ws _ _).trans (ref_yscale x g w ws _ _).symm
/-- The largest magnitude agrees. -/
theorem agree2 : (broadcast S1x1 (yMax x g w ws) : FVec Ideal S1x1 .f32) = Cert.ReferenceIdeal.Gen.k0_pay8 (Cert.ReferenceIdeal.Gen.k0_pay4 x g) (Scalar.ofBits .f32 0x43E00000#32) (Cert.ReferenceIdeal.Gen.k0_pay5 x g) w ws := by
  funext j
  idx_vars j
  rw [same_apply, ref_max]
/-- The activation codes agree. -/
theorem agree3 : cArr x g = Cert.ReferenceIdeal.Gen.k0_pay6 (Scalar.ofBits .f32 0x43E00000#32) (Cert.ReferenceIdeal.Gen.k0_pay5 x g) := by
  funext j
  idx_vars j
  exact (cArr_apply x g _).trans (ref_codes x g j0 j1).symm
/-- The activation scales agree. -/
theorem agree4 : sRow x g = Cert.ReferenceIdeal.Gen.k0_pay1 (Cert.ReferenceIdeal.Gen.k0_pay4 x g) := by
  funext j
  idx_vars j
  refine (sRow_apply x g _ _).trans ?_
  pointwise [Cert.ReferenceIdeal.Gen.k0_pay1]
  exact (ref_scale x g _ _).symm

end Cert.KernelIdeal.Hand

end
-- ==== Proof.RefRun.lean ====
module

public import proofs.«01_k».proof.Proof.Gen.ReferenceIdeal.Value
public import Idealize.ShloMosaic.Lib.Pipeline.ValueKit.Geometry
public import Idealize.ShloMosaic.Lib.Pipeline.ValueKit.Acc

/-! The reference's run: its five results as its payloads of its four arguments, two of them read as matrices of one row and one
    as a matrix without its leading axis. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The launch's one point. -/
abbrev pt : Fin cfg0.N := ⟨0, by decide⟩

/-- The activations as a matrix. -/
abbrev argX (c : Dev nD) : Vec F S256x2560 .bf16 := shapeCast S256x2560 (m ((c.tc : Thread nD τ).loc main_arg0) : Vec F S1x256x2560 .bf16) shapeCasts_S1x256x2560_S256x2560
/-- The gains as a row. -/
abbrev argG (c : Dev nD) : Vec F S1x2560 .f32 := shapeCast S1x2560 (m ((c.tc : Thread nD τ).loc main_arg1) : Vec F S2560 .f32) shapeCasts_S2560_S1x2560
/-- The weight. -/
abbrev argW (c : Dev nD) : Vec F S2560x9728 .fp8e4m3 := m ((c.tc : Thread nD τ).loc main_arg2)
/-- The weight's scales as a row. -/
abbrev argS (c : Dev nD) : Vec F S1x9728 .f32 := shapeCast S1x9728 (m ((c.tc : Thread nD τ).loc main_arg3) : Vec F S9728 .f32) shapeCasts_S9728_S1x9728

/-- At the one point every window is at the corner of its array. -/
theorem idx0_0 : win0_0.index pt 0 = 0 := by decide +kernel
theorem idx0_1 : win0_0.index pt 1 = 0 := by decide +kernel
theorem idx1_0 : win0_1.index pt 0 = 0 := by decide +kernel
theorem idx1_1 : win0_1.index pt 1 = 0 := by decide +kernel
theorem idx2_0 : win0_2.index pt 0 = 0 := by decide +kernel
theorem idx2_1 : win0_2.index pt 1 = 0 := by decide +kernel
theorem idx3_0 : win0_3.index pt 0 = 0 := by decide +kernel
theorem idx3_1 : win0_3.index pt 1 = 0 := by decide +kernel

/-- A window over a whole array reads its contents. -/
theorem blk0 (c : Dev nD) : iblk m c 0 pt = argX m c := by
  funext i; blk_simp [iblk]; entry_read
  exact congrArg (argX m c) (by blk_ext [idx0_0, idx0_1])
theorem blk1 (c : Dev nD) : iblk m c 1 pt = argG m c := by
  funext i; blk_simp [iblk]; entry_read
  exact congrArg (argG m c) (by blk_ext [idx1_0, idx1_1])
theorem blk2 (c : Dev nD) : iblk m c 2 pt = argW m c := by
  funext i; blk_simp [iblk]; entry_read
  exact congrArg (argW m c) (by blk_ext [idx2_0, idx2_1])
theorem blk3 (c : Dev nD) : iblk m c 3 pt = argS m c := by
  funext i; blk_simp [iblk]; entry_read
  exact congrArg (argS m c) (by blk_ext [idx3_0, idx3_1])

/-- The offsets of a whole matrix. -/
theorem zz : (![0, 0] : Fin 2 → ℕ) = fun _ => 0 := by funext a; match a with | ⟨0, _⟩ => rfl | ⟨1, _⟩ => rfl

variable (x0 : Vec F S256x2560 .bf16) (x1 : Vec F S1x2560 .f32) (x2 : Vec F S2560x9728 .fp8e4m3) (x3 : Vec F S1x9728 .f32)

/-- The body's results, each one payload of its operands. -/
theorem out4_eq : out0_4 x0 x1 x2 x3 = k0_pay11 (k0_pay4 x0 x1) (Scalar.ofBits .f32 0x43E00000#32) (k0_pay5 x0 x1) x2 x3 := by
  unfold out0_4 k0_pay12 k0_pay13
  rw [View.canon_unit_zero zz, View.ld_unit_zero zz, View.ld_unit_zero zz, View.ld_unit_zero zz, View.ld_unit_zero zz]
theorem out5_eq : out0_5 x0 x1 x2 x3 = k0_pay10 (k0_pay4 x0 x1) (Scalar.ofBits .f32 0x43E00000#32) (k0_pay5 x0 x1) x2 x3 := by
  unfold out0_5 k0_pay12 k0_pay13
  rw [View.canon_unit_zero zz, View.ld_unit_zero zz, View.ld_unit_zero zz, View.ld_unit_zero zz, View.ld_unit_zero zz]
theorem out6_eq : out0_6 x0 x1 x2 x3 = k0_pay8 (k0_pay4 x0 x1) (Scalar.ofBits .f32 0x43E00000#32) (k0_pay5 x0 x1) x2 x3 := by
  unfold out0_6 k0_pay12 k0_pay13
  rw [View.canon_unit_zero zz, View.ld_unit_zero zz, View.ld_unit_zero zz, View.ld_unit_zero zz, View.ld_unit_zero zz]
theorem out7_eq : out0_7 x0 x1 x2 x3 = k0_pay6 (Scalar.ofBits .f32 0x43E00000#32) (k0_pay5 x0 x1) := by
  unfold out0_7 k0_pay13
  rw [View.canon_unit_zero zz, View.ld_unit_zero zz, View.ld_unit_zero zz]
theorem out8_eq : out0_8 x0 x1 x2 x3 = k0_pay1 (k0_pay4 x0 x1) := by
  unfold out0_8 k0_pay12
  rw [View.canon_unit_zero zz, View.ld_unit_zero zz, View.ld_unit_zero zz]

/-- A result's array after the region, written back whole at the one point: the body's result. -/
theorem arr4 (c : Dev nD) : (dats m 0 c).arrAt 4 cfg0.N = out0_4 (argX m c) (argG m c) (argW m c) (argS m c) := by
  rw [← blk0, ← blk1, ← blk2, ← blk3]; funext i
  refine ((dats m 0 c).arrAt_emb_eq_after_last 4 pt (by decide +kernel) i).trans ?_; blk_simp; rw [after0_4]
theorem arr5 (c : Dev nD) : (dats m 0 c).arrAt 5 cfg0.N = out0_5 (argX m c) (argG m c) (argW m c) (argS m c) := by
  rw [← blk0, ← blk1, ← blk2, ← blk3]; funext i
  refine ((dats m 0 c).arrAt_emb_eq_after_last 5 pt (by decide +kernel) i).trans ?_; blk_simp; rw [after0_5]
theorem arr6 (c : Dev nD) : (dats m 0 c).arrAt 6 cfg0.N = out0_6 (argX m c) (argG m c) (argW m c) (argS m c) := by
  rw [← blk0, ← blk1, ← blk2, ← blk3]; funext i
  refine ((dats m 0 c).arrAt_emb_eq_after_last 6 pt (by decide +kernel) i).trans ?_; blk_simp; rw [after0_6]
theorem arr7 (c : Dev nD) : (dats m 0 c).arrAt 7 cfg0.N = out0_7 (argX m c) (argG m c) (argW m c) (argS m c) := by
  rw [← blk0, ← blk1, ← blk2, ← blk3]; funext i
  refine ((dats m 0 c).arrAt_emb_eq_after_last 7 pt (by decide +kernel) i).trans ?_; blk_simp; rw [after0_7]
theorem arr8 (c : Dev nD) : (dats m 0 c).arrAt 8 cfg0.N = out0_8 (argX m c) (argG m c) (argW m c) (argS m c) := by
  rw [← blk0, ← blk1, ← blk2, ← blk3]; funext i
  refine ((dats m 0 c).arrAt_emb_eq_after_last 8 pt (by decide +kernel) i).trans ?_; blk_simp; rw [after0_8]

/-- THE RESULTS: each of the five as a payload of the arguments, and the arguments as launched. -/
theorem values : θ_run defs (onTc (τ := τ) (main (F := F))) ⟨m, fun _ => 0, ρ⟩ fun r => ∀ c : Dev nD,
      r.2.mem ((c.tc : Thread nD τ).loc main_v3_0) = k0_pay11 (k0_pay4 (argX m c) (argG m c)) (Scalar.ofBits .f32 0x43E00000#32) (k0_pay5 (argX m c) (argG m c)) (argW m c) (argS m c)
      ∧ r.2.mem ((c.tc : Thread nD τ).loc main_v3_1) = k0_pay10 (k0_pay4 (argX m c) (argG m c)) (Scalar.ofBits .f32 0x43E00000#32) (k0_pay5 (argX m c) (argG m c)) (argW m c) (argS m c)
      ∧ r.2.mem ((c.tc : Thread nD τ).loc main_v3_2) = k0_pay8 (k0_pay4 (argX m c) (argG m c)) (Scalar.ofBits .f32 0x43E00000#32) (k0_pay5 (argX m c) (argG m c)) (argW m c) (argS m c)
      ∧ r.2.mem ((c.tc : Thread nD τ).loc main_v3_3) = k0_pay6 (Scalar.ofBits .f32 0x43E00000#32) (k0_pay5 (argX m c) (argG m c))
      ∧ r.2.mem ((c.tc : Thread nD τ).loc main_v3_4) = k0_pay1 (k0_pay4 (argX m c) (argG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, hk⟩ := h c
    exact ⟨h0.trans ((arr4 m c).trans (out4_eq _ _ _ _)), h1.trans ((arr5 m c).trans (out5_eq _ _ _ _)), h2.trans ((arr6 m c).trans (out6_eq _ _ _ _)),
      h3.trans ((arr7 m c).trans (out7_eq _ _ _ _)), h4.trans ((arr8 m c).trans (out8_eq _ _ _ _)), hk⟩)
    (Value.run_blocks m ρ)

end Cert.ReferenceIdeal.Hand

end
-- ==== Proof.Ends.lean ====
module

public import proofs.«01_k».proof.Proof.Frame
public import proofs.«01_k».proof.Proof.Agree
public import proofs.«01_k».proof.Proof.RefRun
public import proofs.«01_k».proof.Defs
public import Idealize.ShloMosaic.Lib.Pipeline.ValueKit.Geometry

/-! Both programs' runs side by side: from equal arguments the region's operands are equal, and so are the five results. -/

@[expose] public section

set_option maxRecDepth 16384

noncomputable section

namespace Cert.KernelIdeal.Hand

open Cert.KernelIdeal Cert.KernelIdeal.Gen
open Idealize.ShloMosaic Idealize.ShloMosaic.TcCoe Idealize.SL.Sem

/-! ## The kernel's operands -/

section Operands
variable {F : FTy → Type} [FloatOps F] [Named F]
variable (m : (ℓ : Loc nD τ sig) → Buf (Elt F) ℓ)

/-- The activations as a matrix. -/
abbrev argX (c : Dev nD) : Vec F S256x2560 .bf16 := shapeCast S256x2560 (m ((c.tc : Thread nD τ).loc main_arg0) : Vec F S1x256x2560 .bf16) shapeCasts_S1x256x2560_S256x2560
/-- The gains as a row. -/
abbrev argG (c : Dev nD) : Vec F S1x2560 .f32 := shapeCast S1x2560 (m ((c.tc : Thread nD τ).loc main_arg1) : Vec F S2560 .f32) shapeCasts_S2560_S1x2560
/-- The weight. -/
abbrev argW (c : Dev nD) : Vec F S2560x9728 .fp8e4m3 := m ((c.tc : Thread nD τ).loc main_arg2)
/-- The weight's scales as a row. -/
abbrev argS (c : Dev nD) : Vec F S1x9728 .f32 := shapeCast S1x9728 (m ((c.tc : Thread nD τ).loc main_arg3) : Vec F S9728 .f32) shapeCasts_S9728_S1x9728

/-- At the one point the two windows that are read are at the corners of their arrays. -/
theorem idx0_0 : win0_0.index t0_0 0 = 0 := by decide +kernel
theorem idx0_1 : win0_0.index t0_0 1 = 0 := by decide +kernel
theorem idx1_0 : win0_1.index t0_0 0 = 0 := by decide +kernel
theorem idx1_1 : win0_1.index t0_0 1 = 0 := by decide +kernel

/-- The region's operands are the arguments, reshaped. -/
theorem inX_eq (c : Dev nD) : inX m c = argX m c := by
  refine (readWhole c main_v0 (V m c main_v0)).trans ?_
  entry_read
  rfl
theorem inG_eq (c : Dev nD) : inG m c = argG m c := by
  funext i; blk_simp [inG, iblk]; entry_read
  exact congrArg (argG m c) (by blk_ext [idx0_0, idx0_1])
theorem inW_eq (c : Dev nD) : inW m c = argW m c :=
  (readWhole c main_arg2 (V m c main_arg2)).trans (V_main_arg2 m c)
theorem inS_eq (c : Dev nD) : inS m c = argS m c := by
  funext i; blk_simp [inS, iblk]; entry_read
  exact congrArg (argS m c) (by blk_ext [idx1_0, idx1_1])
end Operands

/-! ## The two runs -/

/-- The ideal kernel and the ideal reference, from equal arguments, both run and end with equal results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, _, _, values (F := Ideal) m g, ?_⟩
  refine (θ_run (Cert.ReferenceIdeal.defs (F := Ideal)) _ _).mono (fun r h c => ?_) (Cert.ReferenceIdeal.Hand.values (F := Ideal) m' g')
  obtain ⟨a0, a1, a2, a3⟩ := hargs c
  have eX : Cert.ReferenceIdeal.Hand.argX m' c = inX m c := (congrArg (fun a => shapeCast S256x2560 a shapeCasts_S1x256x2560_S256x2560) a0).trans (inX_eq m c).symm
  have eG : Cert.ReferenceIdeal.Hand.argG m' c = inG m c := (congrArg (fun a => shapeCast S1x2560 a shapeCasts_S2560_S1x2560) a1).trans (inG_eq m c).symm
  have eW : Cert.ReferenceIdeal.Hand.argW m' c = inW m c := a2.trans (inW_eq m c).symm
  have eS : Cert.ReferenceIdeal.Hand.argS m' c = inS m c := (congrArg (fun a => shapeCast S1x9728 a shapeCasts_S9728_S1x9728) a3).trans (inS_eq m c).symm
  obtain ⟨h0, h1, h2, h3, h4, hk⟩ := h c
  rw [eX, eG, eW, eS] at h0 h1 h2
  rw [eX, eG] at h3 h4
  exact ⟨h0.trans (agree0 _ _ _ _).symm, h1.trans (agree1 _ _ _ _).symm, h2.trans (agree2 _ _ _ _).symm, h3.trans (agree3 _ _).symm,
    h4.trans (agree4 _ _).symm, hk⟩

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frame
public import proofs.«01_k».proof.Proof.BitsFrame
public import proofs.«01_k».proof.Proof.Ends
public import Idealize.ShloMosaic.Adequacy
public import Idealize.ShloMosaic.Init

/-! The claim, assembled: the three frames, what the idealization preserves, and that the ideal kernel computes the reference. -/

@[expose] public section

noncomputable section

namespace Cert.Proof

open Idealize.ShloMosaic Idealize.SL.Sem Cert.Kernel

/-- The constant named in the ideal kernel is the real it stands for. -/
theorem preserves : Cert.preserves_Kernel_KernelIdeal :=
  IdealRules.named_const.statement Cert.KernelIdeal.κ "inv_d_model" .f32 0x39CCCCCD#32 ((1 / 2560 : ℝ) : EReal) rfl

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, preserves, Cert.KernelIdeal.Hand.algebraic⟩

end Cert.Proof

end
